-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![4096, 1]⟩ ⟨2, ![8192, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32x128 : Shape := ⟨2, ![32, 128]⟩
abbrev S1024x1024 : Shape := ⟨2, ![1024, 1024]⟩
abbrev S2x32x128 : Shape := ⟨3, ![2, 32, 128]⟩
abbrev S4 : Shape := ⟨1, ![4]⟩
abbrev S_ : Shape := ⟨0, ![]⟩
abbrev S1024 : Shape := ⟨1, ![1024]⟩
abbrev S8x128 : Shape := ⟨2, ![8, 128]⟩
abbrev S1x8x128 : Shape := ⟨3, ![1, 8, 128]⟩
abbrev S1 : Shape := ⟨1, ![1]⟩
abbrev S1x32x128 : Shape := ⟨3, ![1, 32, 128]⟩
abbrev S4096x1 : Shape := ⟨2, ![4096, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S32x128, .f32⟩
  | .hbm, ⟨2, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S32x128, .f32⟩
  | .local _ .vmem, ⟨3, _⟩ => ⟨S2x32x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def k0_dev1 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v38 : BitVec 32 := Scalar.muli v2 c2_i32_19
  let v39 : BitVec 32 := Scalar.addi c0_i32_20 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v40 : BitVec 32 := Scalar.muli v6 c1_i32_21
  let v41 : BitVec 32 := Scalar.addi v39 v40
  v41.toNat
def k0_off1 (i : grid0.Coords) : Fin 3 → Nat :=
  let c0_5 : Index := 0#32
  let arg0 : BitVec 32 := BitVec.ofNat 32 (i 0).val
  let c8_i32 : BitVec 32 := 8#32
  let v15 : BitVec 32 := Scalar.muli arg0 c8_i32
  let v16 : Index := Scalar.indexCast v15
  let c0_6 : Index := 0#32
  ![0, v16.toNat, 0]
def k0_cond3 (i : grid0.Coords) : BitVec 1 :=
  let arg0 : BitVec 32 := BitVec.ofNat 32 (i 0).val
  let c0_i32_9 : BitVec 32 := 0#32
  let v23 : BitVec 1 := Scalar.cmpi .eq arg0 c0_i32_9
  let v24 : BitVec 32 := Scalar.extui v23
  let c0_i32_10 : BitVec 32 := 0#32
  let v25 : BitVec 1 := Scalar.cmpi .ne v24 c0_i32_10
  v25

def k0_dev2 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v38 : BitVec 32 := Scalar.muli v2 c2_i32_22
  let v39 : BitVec 32 := Scalar.addi c0_i32_23 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v40 : BitVec 32 := Scalar.muli v6 c1_i32_24
  let v41 : BitVec 32 := Scalar.addi v39 v40
  v41.toNat
def k0_cond4 (i : grid0.Coords) : BitVec 1 :=
  let arg0 : BitVec 32 := BitVec.ofNat 32 (i 0).val
  let c1_i32_11 : BitVec 32 := 1#32
  let v26 : BitVec 1 := Scalar.cmpi .eq arg0 c1_i32_11
  let v27 : BitVec 32 := Scalar.extui v26
  let c0_i32_12 : BitVec 32 := 0#32
  let v28 : BitVec 1 := Scalar.cmpi .ne v27 c0_i32_12
  v28

def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v38 : BitVec 32 := Scalar.muli v2 c2_i32_22
  let v39 : BitVec 32 := Scalar.addi c0_i32_23 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v40 : BitVec 32 := Scalar.muli v6 c1_i32_24
  let v41 : BitVec 32 := Scalar.addi v39 v40
  v41.toNat
def k0_cond5 (i : grid0.Coords) : BitVec 1 :=
  let arg0 : BitVec 32 := BitVec.ofNat 32 (i 0).val
  let c2_i32_13 : BitVec 32 := 2#32
  let v29 : BitVec 1 := Scalar.cmpi .eq arg0 c2_i32_13
  let v30 : BitVec 32 := Scalar.extui v29
  let c0_i32_14 : BitVec 32 := 0#32
  let v31 : BitVec 1 := Scalar.cmpi .ne v30 c0_i32_14
  v31

def k0_dev4 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v38 : BitVec 32 := Scalar.muli v2 c2_i32_22
  let v39 : BitVec 32 := Scalar.addi c0_i32_23 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v40 : BitVec 32 := Scalar.muli v6 c1_i32_24
  let v41 : BitVec 32 := Scalar.addi v39 v40
  v41.toNat
def k0_cond6 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_15 : BitVec 32 := 0#32
  let v34 : BitVec 1 := Scalar.cmpi .ne v33 c0_i32_15
  v34

def k0_dev5 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v38 : BitVec 32 := Scalar.muli v2 c2_i32_22
  let v39 : BitVec 32 := Scalar.addi c0_i32_23 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v40 : BitVec 32 := Scalar.muli v6 c1_i32_24
  let v41 : BitVec 32 := Scalar.addi v39 v40
  v41.toNat
def k0_cond7 (i : grid0.Coords) : BitVec 1 :=
  let arg0 : BitVec 32 := BitVec.ofNat 32 (i 0).val
  let c3_i32_16 : BitVec 32 := 3#32
  let v35 : BitVec 1 := Scalar.cmpi .eq arg0 c3_i32_16
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192, .f32⟩
  | .hbm, ⟨3, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
The exchange each device makes with its row mate: the mate, the pieces of the scratch buffer that travel, and what
they hold.

Every device sums the rows of its 4096 × 1024 block in four steps of 1024 rows, packs the sums of step k as the
8 × 128 piece k of slab 0 of its scratch buffer, and copies that piece to piece k of slab 1 of the scratch of the
device that holds the other half of the same rows.
-/
module

public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The row mate -/

/-- The device holding the other half of the same rows: device `2 i + j` and device `2 i + (1 - j)`. -/
def peer (c : Dev nD) : Dev nD := ⟨2 * (c.val / 2) + 1 - c.val % 2, by have h : c.val < 4 := c.isLt; show _ < 4; omega⟩

/-- The mate of the mate is the device itself. -/
theorem peer_peer (c : Dev nD) : peer (peer c) = c := by
  have h : c.val < 4 := c.isLt
  apply Fin.ext; show 2 * ((2 * (c.val / 2) + 1 - c.val % 2) / 2) + 1 - (2 * (c.val / 2) + 1 - c.val % 2) % 2 = c.val; omega

/-- Exchanging mates, as a permutation of the devices. -/
def mates : Dev nD ≃ Dev nD := ⟨peer, peer, peer_peer, peer_peer⟩

/-! ## The pieces of the scratch buffer -/

/-- Piece `k` of slab `b` of the scratch buffer lies inside it. -/
theorem piece_inb (b : Fin 2) (k : Fin 4) : ∀ a, (![b.val, 8 * k.val, 0] : Fin 3 → Nat) a + S1x8x128.size a ≤ S2x32x128.size a := by
  revert b k; decide

/-- Rows `8 k … 8 k + 7` of slab `b` of the scratch buffer. -/
abbrev pieceRect (b : Fin 2) (k : Fin 4) : Rect S2x32x128 := Rect.unit ![b.val, 8 * k.val, 0] S1x8x128.size (piece_inb b k)

/-- The scratch buffer of a device, whole. -/
abbrev scr : Memref sig .tc .vmem S2x32x128 .f32 := Memref.whole cc0_scratch0

/-- Piece `k` of slab `b`, as the 8 × 128 memory region a copy names. -/
abbrev piece (b : Fin 2) (k : Fin 4) : Memref sig .tc .vmem S8x128 .f32 :=
  (scr.slice (pieceRect b k) (fun _ => rfl)).squeeze S8x128 squeezes_S1x8x128_S8x128

/-- An element lies in a piece when its slab is the piece's and its row is one of the piece's eight. -/
theorem mem_piece (b : Fin 2) (k : Fin 4) (i : S2x32x128.Idx) :
    i ∈ (pieceRect b k).set ↔ (i 0).val = b.val ∧ (i 1).val / 8 = k.val := by
  have h2 : (i 2).val < 128 := (i 2).isLt
  rw [Rect.mem_set_unit, Fin.forall_fin_succ, Fin.forall_fin_succ, Fin.forall_fin_one]
  show ((b.val ≤ (i 0).val ∧ (i 0).val < b.val + 1) ∧ (8 * k.val ≤ (i 1).val ∧ (i 1).val < 8 * k.val + 8)
    ∧ (0 ≤ (i 2).val ∧ (i 2).val < 0 + 128)) ↔ _
  omega

/-- The elements a copy of a piece touches are the piece's. -/
theorem piece_set (b : Fin 2) (k : Fin 4) : (piece b k).view.set = (pieceRect b k).set := by
  rw [Memref.set_view_squeeze]; exact View.set_slice_whole _ _

/-- The elements of a slab's piece, counted from the piece's own corner. -/
def inPiece (i : S2x32x128.Idx) : S1x8x128.Idx := fun a => ⟨(i a).val % S1x8x128.size a, Nat.mod_lt _ (by revert a; decide)⟩

/-- The piece an element's row lies in. -/
def pieceOf (i : S2x32x128.Idx) : Fin 4 := ⟨(i 1).val / 8, by have h : (i 1).val < 32 := (i 1).isLt; omega⟩

/-- A piece's element, seen from the piece's corner, is the index it was placed by. -/
theorem inPiece_emb (b : Fin 2) (k : Fin 4) (j : S1x8x128.Idx) : inPiece ((pieceRect b k).emb j) = j := by
  funext a
  apply Fin.ext
  show (((pieceRect b k).emb j a).val) % S1x8x128.size a = (j a).val
  rw [Rect.emb_apply]
  revert a
  rw [Fin.forall_fin_succ, Fin.forall_fin_succ, Fin.forall_fin_one]
  have h0 : (j 0).val < 1 := (j 0).isLt
  have h1 : (j 1).val < 8 := (j 1).isLt
  have h2 : (j 2).val < 128 := (j 2).isLt
  refine ⟨?_, ?_, ?_⟩
  · show (b.val + 1 * (j 0).val) % 1 = (j 0).val; omega
  · show (8 * k.val + 1 * (j 1).val) % 8 = (j 1).val; omega
  · show (0 + 1 * (j 2).val) % 128 = (j 2).val; omega

/-- An element of a piece lies in the piece's slab. -/
theorem slab_emb (b : Fin 2) (k : Fin 4) (j : S1x8x128.Idx) : ((pieceRect b k).emb j 0).val = b.val :=
  ((mem_piece b k _).1 (by rw [← Rect.map_emb_univ]; exact Finset.mem_map_of_mem _ (Finset.mem_univ _))).1

/-- An element of a piece lies in that piece. -/
theorem pieceOf_emb (b : Fin 2) (k : Fin 4) (j : S1x8x128.Idx) : pieceOf ((pieceRect b k).emb j) = k :=
  Fin.ext ((mem_piece b k _).1 (by rw [← Rect.map_emb_univ]; exact Finset.mem_map_of_mem _ (Finset.mem_univ _))).2

/-- The eight pieces cover the scratch buffer. -/
theorem pieces_cover : (Finset.univ : Finset (Fin 2 × Fin 4)).biUnion (fun p => (pieceRect p.1 p.2).set) = Finset.univ := by
  ext i
  have h0 : (i 0).val < 2 := (i 0).isLt
  simp only [Finset.mem_biUnion, Finset.mem_univ, true_and, iff_true]
  exact ⟨(⟨(i 0).val, h0⟩, pieceOf i), (mem_piece _ _ i).2 ⟨rfl, rfl⟩⟩

/-- No element lies in two pieces. -/
theorem pieces_disjoint : ∀ p ∈ (Finset.univ : Finset (Fin 2 × Fin 4)), ∀ p' ∈ (Finset.univ : Finset (Fin 2 × Fin 4)), p ≠ p' →
    Disjoint (pieceRect p.1 p.2).set (pieceRect p'.1 p'.2).set := by
  intro p _ p' _ hne
  rw [Finset.disjoint_left]
  intro i h h'
  rw [mem_piece] at h h'
  exact hne (Prod.ext (Fin.ext (h.1.symm.trans h'.1)) (Fin.ext (h.2.symm.trans h'.2)))

/-! ## What the scratch buffer holds -/

variable (m : (ℓ : Loc nD τ sig) → Buf (Elt F) ℓ) (ρ : Dev nD → PrngReg)

/-- The packed row sums of step `k` on device `c`. -/
def sums (c : Dev nD) (k : Fin 4) : FVec F S1x8x128 .f32 := k0_pay2 (iblk m c 0 k)

/-- A device's scratch at the end of the exchange: its own sums in slab 0, its mate's in slab 1. -/
def comm (c : Dev nD) : (cc0_scratch0 : Ref sig .tc).ty.Contents (Elt F) :=
  fun i : S2x32x128.Idx => sums m (if (i 0).val = 0 then c else peer c) (pieceOf i) (inPiece i)

/-- A piece of slab 0 holds the device's own sums. -/
theorem comm_own (c : Dev nD) (k : Fin 4) (j : S1x8x128.Idx) : comm m c ((pieceRect 0 k).emb j) = sums m c k j := by
  unfold comm; rw [inPiece_emb, pieceOf_emb, slab_emb]; rfl

/-- A piece of slab 1 holds the mate's sums. -/
theorem comm_mate (c : Dev nD) (k : Fin 4) (j : S1x8x128.Idx) : comm m c ((pieceRect 1 k).emb j) = sums m (peer c) k j := by
  unfold comm; rw [inPiece_emb, pieceOf_emb, slab_emb]; rfl

/-- What a device writes to its result window: the sum of the two slabs. -/
def outAt (c : Dev nD) : FVec F S32x128 .f32 :=
  k0_pay1 (scr.view.readAt (Elt F) (Rect.unit (s := S2x32x128) ![0, 0, 0] S1x32x128.size inb_S2x32x128_S1x32x128_0_0_0).toLoadRect (comm m c))
    (scr.view.readAt (Elt F) (Rect.unit (s := S2x32x128) ![1, 0, 0] S1x32x128.size inb_S2x32x128_S1x32x128_1_0_0).toLoadRect (comm m c))

/-! ## Ownership of pieces -/

/-- Ghost state: one part for the pipeline's buffers, one for the exchange. -/
abbrev UU : Type := UR sig nD τ × UR sig nD τ

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb (UR sig nD τ) (MT nD τ sig Unit (Elt F) ℕ UU ℕ) := embR

/-- Device `c` owns piece `k` of slab `b` of its scratch buffer, at the contents `f`. -/
def pcs (c : Dev nD) (b : Fin 2) (k : Fin 4) (f : Buf (Elt F) ((c : Thread nD τ).loc cc0_scratch0)) : sProp 𝕄 :=
  ((c : Thread nD τ).loc cc0_scratch0) ↦[(pieceRect b k).set]{fullShare} f

/-- A piece may be handed over through a semaphore. -/
instance pcs_storable (c : Dev nD) (b : Fin 2) (k : Fin 4) (f : Buf (Elt F) ((c : Thread nD τ).loc cc0_scratch0)) :
    BI.Storable (upEmb : UEmb _ 𝕄) (pcs c b k f) := by unfold pcs; infer_instance

/-- The whole scratch buffer is its eight pieces. -/
theorem scr_pieces (c : Dev nD) (f : Buf (Elt F) ((c : Thread nD τ).loc cc0_scratch0)) :
    (((c : Thread nD τ).loc cc0_scratch0) ↦{fullShare} f : sProp 𝕄)
      = iprop(bigSep Finset.univ (fun k : Fin 4 => pcs c 0 k f) ∗ bigSep Finset.univ (fun k : Fin 4 => pcs c 1 k f)) := by
  have h := pointsTo_biUnion (Ix := Unit) (Name := ℕ) (U := UU) (Lvl := ℕ) (ℓ := (c : Thread nD τ).loc cc0_scratch0) (q := fullShare) (f := f)
    (Finset.univ : Finset (Fin 2 × Fin 4)) (fun p => (pieceRect p.1 p.2).set) pieces_disjoint
  rw [show (Finset.univ : Finset (Fin 2 × Fin 4)).biUnion (fun p => (pieceRect p.1 p.2).set) = Finset.univ from pieces_cover,
    BI.bigSep_univ_prod, BI.bigSep_fin_two] at h
  exact h

/-- Owning a piece depends only on what the contents say inside it. -/
theorem pcs_congr (c : Dev nD) (b : Fin 2) (k : Fin 4) {f g : Buf (Elt F) ((c : Thread nD τ).loc cc0_scratch0)}
    (h : ∀ j : S1x8x128.Idx, f ((pieceRect b k).emb j) = g ((pieceRect b k).emb j)) : (pcs c b k f : sProp 𝕄) = pcs c b k g := by
  unfold pcs
  refine pointsTo_congr fun i hi => ?_
  rw [← Rect.map_emb_univ] at hi
  obtain ⟨j, -, rfl⟩ := Finset.mem_map.1 hi
  exact h j

/-- A copy of a piece of slab 0 into the same piece of slab 1 of the mate's scratch leaves there what the end of the
    exchange has there. -/
theorem landed (c : Dev nD) (k : Fin 4) (fd : Buf (Elt F) ((peer c : Thread nD τ).loc cc0_scratch0)) :
    (pcs (peer c) 1 k ((piece 1 k).view.write (Elt F) fd ((piece 0 k).view.read (Elt F) (comm m c)) Finset.univ) : sProp 𝕄)
      = pcs (peer c) 1 k (comm m (peer c)) := by
  unfold pcs
  rw [← piece_set]
  refine pointsTo_congr fun i hi => ?_
  obtain ⟨j, -, rfl⟩ := Finset.mem_map.1 hi
  rw [View.write_emb_of_mem _ _ (Finset.mem_univ _), View.read_apply]
  obtain ⟨x, h0, h1⟩ : ∃ x : S1x8x128.Idx, (piece 0 k).view.emb j = (pieceRect 0 k).emb x ∧ (piece 1 k).view.emb j = (pieceRect 1 k).emb x := ⟨_, rfl, rfl⟩
  show comm m c ((piece 0 k).view.emb j) = comm m (peer c) ((piece 1 k).view.emb j)
  rw [h0, h1, comm_own, comm_mate, peer_peer]

/-- Storing a step's sums into a piece of slab 0 leaves there what the end of the exchange has there. -/
theorem stored (c : Dev nD) (k : Fin 4) (f : Buf (Elt F) ((c : Thread nD τ).loc cc0_scratch0)) :
    (pcs c 0 k ((scr.access (pieceRect 0 k)).write (Elt F) f (sums m c k) Finset.univ) : sProp 𝕄) = pcs c 0 k (comm m c) := by
  refine pcs_congr c 0 k fun j => ?_
  rw [comm_own]
  exact View.write_emb_of_mem (v := scr.access (pieceRect 0 k)) f (sums m c k) (Finset.mem_univ j)

end Cert.RowSum
-- ==== Proof.Schedule.lean ====
/-
The schedule of the exchange: which semaphores it counts on, what each credit is worth, and what each carries.

Every device has nine cells. On its barrier cell its mate reports ready, handing over slab 1 of the mate's scratch.
On send cell `k` its own copy of piece `k` reports that it has read the piece; on receive cell `k` its mate's copy
of piece `k` reports that it has landed. Each cell runs one round with one duty.
-/
module

public import proofs.«01_k».proof.Proof.Protocol

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A port of the exchange: the send side (`0`) or the receive side (`1`) of piece `k`. -/
abbrev Port : Type := Fin 2 × Fin 4

/-- The semaphore of a port. -/
def dsem (p : Port) : DmaSem sig := ⟨3 + 4 * p.1.val + p.2.val, by revert p; decide⟩

/-- The ports' semaphores, as the kernel's own. -/
abbrev osem (p : Port) : SemLoc sig := .dma (dsem p)

/-- A device's barrier cell. -/
abbrev barCell (c : Dev nD) : GSem nD τ sig := ((c : Thread nD τ), .reg barrier0)
/-- A device's cell of a port. -/
abbrev cell (c : Dev nD) (p : Port) : GSem nD τ sig := ((c : Thread nD τ), osem p)

/-- Different ports have different semaphores. -/
theorem dsem_inj : Function.Injective dsem := by decide

/-- The port a semaphore serves. -/
def portOf (s : DmaSem sig) : Port := (⟨(s.val - 3) / 4 % 2, Nat.mod_lt _ (by decide)⟩, ⟨(s.val - 3) % 4, Nat.mod_lt _ (by decide)⟩)

/-- The port that a port's semaphore serves is the port. -/
theorem portOf_dsem (p : Port) : portOf (dsem p) = p := by revert p; decide

/-- The credit of one piece's copy. -/
abbrev N : ℕ := (piece 0 0).view.dmaCredit
/-- A copy's credit is not zero. -/
theorem N_pos : 0 < N := View.dmaCredit_pos _ (by decide)

/-! ## The schedule -/

/-- What the mate's ready report hands over: slab 1 of the mate's scratch, piece by piece, and that the mate's receive
    cells are open. -/
def barPay (c : Dev nD) : sProp 𝕄 :=
  bigSep Finset.univ fun k : Fin 4 => iprop((∃ f, pcs (peer c) 1 k f) ∗ reached ER (cell (peer c) (1, k)) 0)

/-- The semaphores that take part: the barrier's, and those of the ports. -/
def Talks : SemLoc sig → Prop
  | .reg s => s = barrier0
  | .dma s => 3 ≤ s.val

open Classical in
/-- One duty in round 0 of every cell. A report is worth 1, a copy its credit; a copy's report carries the piece at what
    it holds at the end of the exchange. -/
def sched : Rounds.Schedule (GSem nD τ sig) Unit 𝕄 where
  duties g r := if r = 0 ∧ g.1.2 = .tc ∧ Talks g.2 then {()} else ∅
  unitless _ := False
  amount g _ _ := match g.2 with | .reg _ => 1 | .dma _ => N
  payload g _ _ := match g.2 with
    | .reg _ => barPay g.1.1
    | .dma s => pcs g.1.1 (portOf s).1 (portOf s).2 (comm m g.1.1)
  amount_pos g _ _ _ := by
    rcases g with ⟨t, s | s⟩
    · exact Nat.one_pos
    · exact N_pos

/-- What the duties carry may be handed over through a semaphore. -/
instance sched_storable (g : GSem nD τ sig) (r : ℕ) (d : Unit) : BI.Storable (upEmb : UEmb _ 𝕄) ((sched m).payload g r d) := by
  rcases g with ⟨t, s | s⟩
  · show BI.Storable upEmb (barPay t.1); unfold barPay; infer_instance
  · show BI.Storable upEmb (pcs _ _ _ _); infer_instance

/-- Every port's semaphore takes part. -/
theorem talks_osem (p : Port) : Talks (osem p) := by show 3 ≤ 3 + 4 * p.1.val + p.2.val; omega
/-- The barrier semaphore takes part. -/
theorem talks_bar : Talks (.reg barrier0 : SemLoc sig) := rfl

/-- A cell that takes part has one duty in round 0. -/
theorem duties_first (c : Dev nD) {sm : SemLoc sig} (h : Talks sm) : (sched m).duties ((c : Thread nD τ), sm) 0 = {()} :=
  if_pos ⟨rfl, rfl, h⟩
/-- No cell has a duty in a later round. -/
theorem duties_later (g : GSem nD τ sig) (r : ℕ) (hr : 1 ≤ r) : (sched m).duties g r = ∅ := if_neg fun h => by omega

/-- That duty is one of the round's. -/
theorem duty_mem (c : Dev nD) {sm : SemLoc sig} (h : Talks sm) : () ∈ (sched m).duties ((c : Thread nD τ), sm) 0 := by
  rw [duties_first m c h]; exact Finset.mem_singleton_self _

/-- A round's whole amount is its one duty's. -/
theorem expect_first (c : Dev nD) {sm : SemLoc sig} (h : Talks sm) :
    (sched m).expect ((c : Thread nD τ), sm) 0 = (sched m).amount ((c : Thread nD τ), sm) 0 () := by
  unfold Schedule.expect Schedule.amountOf; rw [duties_first m c h, Finset.sum_singleton]

/-- All that a round carries is what its one duty carries. -/
theorem rest_first (c : Dev nD) {sm : SemLoc sig} (h : Talks sm) :
    bigSep ((sched m).duties ((c : Thread nD τ), sm) 0 \ ∅) (fun u => (sched m).payload ((c : Thread nD τ), sm) 0 u)
      = (sched m).payload ((c : Thread nD τ), sm) 0 () := by
  rw [Finset.sdiff_empty, duties_first m c h, bigSep_singleton]

/-- A copy's report on a port carries the port's piece. -/
theorem payload_port (c : Dev nD) (p : Port) : (sched m).payload (cell c p) 0 () = pcs c p.1 p.2 (comm m c) := by
  show pcs c (portOf (dsem p)).1 (portOf (dsem p)).2 (comm m c) = _
  rw [portOf_dsem]
/-- A ready report carries the landing places. -/
theorem payload_bar (c : Dev nD) : (sched m).payload (barCell c) 0 () = barPay c := rfl

/-- A wait on a barrier cell expects 1. -/
theorem expect_bar (c : Dev nD) : (sched m).expect (barCell c) 0 = 1 := expect_first m c talks_bar
/-- A wait on a port's cell expects one copy's credit. -/
theorem expect_port (c : Dev nD) (p : Port) : (sched m).expect (cell c p) 0 = N := expect_first m c (talks_osem p)

/-! ## What a device owes, and the levels its waits are cut by -/

/-- The pieces from `n` on. -/
def from_ (n : ℕ) : Finset (Fin 4) := Finset.univ.filter fun k => n ≤ k.val

/-- All pieces are from piece 0 on. -/
theorem from_zero : from_ 0 = Finset.univ := by decide
/-- No piece is from piece 4 on. -/
theorem from_end : from_ 4 = ∅ := by decide
/-- From `k` on are piece `k` and those from `k + 1` on. -/
theorem from_step (k : Fin 4) : from_ k.val = insert k (from_ (k.val + 1)) := by revert k; decide
/-- Piece `k` is not from `k + 1` on. -/
theorem from_fresh (k : Fin 4) : k ∉ from_ (k.val + 1) := by revert k; decide

/-- Before the copy of piece `n`, a device owes its mate the credits of the pieces from `n` on. -/
def owing (c : Dev nD) (n : ℕ) : CellTallies nD τ sig Unit := ∑ k ∈ from_ n, tallyAt (cell (peer c) (1, k)) () N

/-- Before the copy of piece `k` a device owes that copy's credit and the later ones. -/
theorem owing_step (c : Dev nD) (k : Fin 4) : owing c k.val = tallyAt (cell (peer c) (1, k)) () N + owing c (k.val + 1) := by
  unfold owing; rw [from_step, Finset.sum_insert (from_fresh k)]
/-- After the last copy a device owes nothing. -/
theorem owing_end (c : Dev nD) : owing c 4 = 0 := by unfold owing; rw [from_end, Finset.sum_empty]

/-- At launch a device owes its mate the ready report as well. -/
def owed₀ (c : Dev nD) : CellTallies nD τ sig Unit := owing c 0 + tallyAt (barCell (peer c)) () 1

/-- The index every cell of a device's core has. -/
def L (g : GSem nD τ sig) : Finset Unit := if g.1.2 = .tc then {()} else ∅

/-- The barrier cells stand below the port cells, everything else below both. -/
def lv (g : GSem nD τ sig) (_ : Unit) : ℕ := match g.2 with | .reg _ => 1 | .dma s => if 3 ≤ s.val then 2 else 0

/-- A cell that is not on a device's core has no index. -/
theorem L_of_ne (g : GSem nD τ sig) (h : g.1.2 ≠ .tc) : L g = ∅ := if_neg h
/-- A cell on a device's core has its one index. -/
theorem L_tc (c : Dev nD) (sm : SemLoc sig) : L ((c : Thread nD τ), sm) = {()} := if_pos rfl
/-- A port's cell stands at level 2. -/
theorem lv_port (c : Dev nD) (p : Port) (u : Unit) : lv (cell c p) u = 2 := if_pos (talks_osem p)

/-- Whatever a device owes for its copies it owes to a receive cell of its mate. -/
theorem owing_pos {c : Dev nD} {n : ℕ} {g : GSem nD τ sig} {u : Unit} (h : 0 < owing c n g u) : ∃ k : Fin 4, g = cell (peer c) (1, k) := by
  unfold owing at h
  rw [Finset.sum_apply, Finsupp.finset_sum_apply] at h
  obtain ⟨k, -, hk⟩ := Finset.exists_ne_zero_of_sum_ne_zero (Nat.pos_iff_ne_zero.1 h)
  rw [tallyAt_apply] at hk
  refine ⟨k, ?_⟩
  by_contra hne
  exact hk (if_neg fun e => hne e.1)

/-- What a device may still owe is owed to cells that have the index and stand above level `0`. -/
theorem owing_cut {c : Dev nD} {n : ℕ} {g : GSem nD τ sig} {u : Unit} (h : 0 < owing c n g u) : u ∈ L g ∧ lv g u = 2 := by
  obtain ⟨k, rfl⟩ := owing_pos h
  exact ⟨by rw [L_tc]; exact Finset.mem_singleton_self _, lv_port _ _ _⟩

/-- A device may wait on its barrier cell while it owes the credits of its copies. -/
theorem mayWait_bar (c : Dev nD) :
    (levAts L lv : sProp 𝕄) ⊢ MayWait (c : Thread nD τ) (.reg barrier0) () (owing c 0) :=
  MayOwe.of_cut (L := L) (lev := lv) 1 (fun p hp => by rw [Finset.mem_singleton.mp hp, L_tc]; exact Finset.mem_singleton_self _)
    (fun g u hg => (owing_cut hg).1)
    (fun p hp => by rw [Finset.mem_singleton.mp hp]; exact le_refl 1)
    (fun g u hg => by rw [(owing_cut hg).2]; decide)

/-! ## The state of the exchange on a device -/

/-- The barrier cells, one per device. -/
def barEmb : Dev nD ↪ GSem nD τ sig := ⟨fun c => barCell c, fun _ _ h => congrArg (fun g : GSem nD τ sig => g.1.1) h⟩
/-- The port cells, one per port of each device. -/
def portEmb : Dev nD × Port ↪ GSem nD τ sig :=
  ⟨fun cp => cell cp.1 cp.2, fun _ _ h => Prod.ext (congrArg (fun g : GSem nD τ sig => g.1.1) h)
    (dsem_inj (SemLoc.dma.inj (congrArg Prod.snd h)))⟩

/-- All barrier cells. -/
abbrev barCells : Finset (GSem nD τ sig) := Finset.univ.map barEmb
/-- All port cells. -/
abbrev portCells : Finset (GSem nD τ sig) := Finset.univ.map portEmb

/-- What every device may consult: the invariants of all cells, and that the barrier cells are open. -/
def records (K : GSem nD τ sig → ℕ) : sProp 𝕄 :=
  iprop((bigSep (barCells ∪ portCells) fun g => cellInv ER (sched m) (K g) g) ∗ bigSep barCells fun g => reached ER g 0)

/-- The records may be consulted any number of times. -/
instance records_persistent (K : GSem nD τ sig → ℕ) : BI.Persistent (records m K) := by unfold records; infer_instance

/-- The records hold every cell's invariant. -/
theorem inv_mem (K : GSem nD τ sig → ℕ) {g : GSem nD τ sig} (hg : g ∈ (barCells ∪ portCells : Finset (GSem nD τ sig))) :
    records m K ⊢ cellInv ER (sched m) (K g) g := by
  have h : (bigSep (barCells ∪ portCells) fun g => (cellInv ER (sched m) (K g) g : sProp 𝕄)) ⊢ cellInv ER (sched m) (K g) g := bigSep_elim hg
  unfold records
  iintro ⟨HI, -⟩
  iapply h; iexact HI
/-- The records hold a barrier cell's invariant. -/
theorem inv_bar (K : GSem nD τ sig → ℕ) (c : Dev nD) : records m K ⊢ cellInv ER (sched m) (K (barCell c)) (barCell c) :=
  inv_mem m K (Finset.mem_union_left _ (Finset.mem_map_of_mem barEmb (Finset.mem_univ c)))
/-- The records hold a port cell's invariant. -/
theorem inv_port (K : GSem nD τ sig → ℕ) (c : Dev nD) (p : Port) : records m K ⊢ cellInv ER (sched m) (K (cell c p)) (cell c p) :=
  inv_mem m K (Finset.mem_union_right _ (Finset.mem_map_of_mem portEmb (Finset.mem_univ (c, p))))
/-- The records say that a barrier cell is open. -/
theorem reached_bar (K : GSem nD τ sig → ℕ) (c : Dev nD) : records m K ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, HR⟩
  iapply h; iexact HR

/-- A cell past its one round is closed: its counter is back in hand at zero. -/
theorem close (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_later m g)

/-- The tokens of the duties a device pays, less the ready report's: its copy of each piece pays one on its own send cell
    and one on its mate's receive cell. -/
def tokens (c : Dev nD) (k : Fin 4) : sProp 𝕄 :=
  iprop(dutyTok ER (cell c (0, k)) 0 () ∗ dutyTok ER (cell (peer c) (1, k)) 0 ())

/-- What a device carries from launch to the kernel: its position on its barrier cell, the right to open its ports, its
    duty tokens, and the credits its waits spend. -/
def carried (c : Dev nD) : sProp 𝕄 :=
  iprop(atPos ER (barCell c) 0 ∅ 0 ∗ (bigSep Finset.univ fun p : Port => openTok ER (cell c p))
    ∗ dutyTok ER (barCell (peer c)) 0 () ∗ (bigSep Finset.univ fun k : Fin 4 => tokens c k)
    ∗ cred (tallyAt (barCell c) () 1) ∗ bigSep Finset.univ fun k : Fin 4 => cred (tallyAt (cell c (1, k)) () N))

/-- A port once open. -/
def opened (c : Dev nD) (p : Port) : sProp 𝕄 := iprop(atPos ER (cell c p) 0 ∅ 0 ∗ reached ER (cell c p) 0)

/-- What the kernel starts from. -/
def ready (c : Dev nD) : sProp 𝕄 :=
  iprop((∃ K, records m K) ∗ levAts L lv ∗ atPos ER (barCell c) 0 ∅ 0 ∗ (bigSep Finset.univ fun p : Port => opened c p)
    ∗ dutyTok ER (barCell (peer c)) 0 () ∗ (bigSep Finset.univ fun k : Fin 4 => tokens c k)
    ∗ cred (tallyAt (barCell c) () 1) ∗ bigSep Finset.univ fun k : Fin 4 => cred (tallyAt (cell c (1, k)) () N))

/-- Opening one port, its counter at zero. -/
theorem open_port (K : GSem nD τ sig → ℕ) (c : Dev nD) (p : Port) :
    iprop(records m K ∗ (openTok ER (cell c p) ∗ semVal (cell c p) 0)) ⊢ (|={Set.univ}=> opened c p : sProp 𝕄) := by
  unfold opened
  iintro ⟨#HR, Ho, Hv⟩
  iapply (Rounds.cell_open ER (sched m) (g := cell c p) (Set.mem_univ (K (cell c p))))
  isplitr; · iapply (inv_port m K c p); iexact HR
  isplitl [Ho] <;> iassumption

/-- Opening all the ports. -/
theorem opening (c : Dev nD) :
    iprop(((∃ K, records m K) ∗ carried c) ∗ Pipeline.ownSems0 osem c ∗ levAts L lv) ⊢ (|={Set.univ}=> ready m c : sProp 𝕄) := by
  unfold carried ready Pipeline.ownSems0
  iintro ⟨⟨⟨%K, #HR⟩, Ha, Ho, Hb, Ht, Hcb, Hc⟩, Hv, #Hl⟩
  have h : iprop(records m K ∗ bigSep Finset.univ fun p : Port => iprop(openTok ER (cell c p) ∗ semVal (cell c p) 0))
      ⊢ (|={Set.univ}=> bigSep Finset.univ fun p : Port => opened c p : sProp 𝕄) :=
    (bigSep_with_persistent fun p _ => open_port m K c p).trans (BI.bigSep_fupd _ _)
  imod h $$ [Ho Hv] with Hp
  · isplitr; · iexact HR
    rw [bigSep_sep']
    isplitl [Ho] <;> iassumption
  imodintro
  isplitr; · iexists K; iexact HR
  isplitr; · iexact Hl
  isplitl [Ha]; · iexact Ha
  isplitl [Hp]; · iexact Hp
  isplitl [Hb]; · iexact Hb
  isplitl [Ht]; · iexact Ht
  isplitl [Hcb] <;> iassumption

end Cert.RowSum
-- ==== Proof.Body.lean ====
/-
The steps of the kernel on one device, each stated once for every piece: summing a block into a piece, copying a piece to
the mate, waiting on a port, and adding the two slabs.
-/
module

public import proofs.«01_k».proof.Proof.Schedule
public import Idealize.ShloMosaic.Lib.VecWindow

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel has no loop, so no loop variant. -/
abbrev 𝒱₀ : Variants := Variants.none

/-! ## Summing a block into a piece -/

/-- A step loads its input block, and stores the packed row sums to its piece of slab 0. -/
theorem wp_sum (c : Dev nD) (k : Fin 4) (arg1 : Memref sig .tc .vmem S1024x1024 .f32) {off : Fin 3 → ℕ} (hoff : off = ![0, 8 * k.val, 0])
    {inb : ∀ a, off a + S1x8x128.size a ≤ S2x32x128.size a} {h1 h2 h3 h4}
    {α : Type} {K : PUnit → Prog (TpuEff nD τ sig (Elt F) Λ₀ .tc) α} {Q : α → sProp 𝕄} :
    iprop(owns (c : Thread nD τ) arg1 fullShare (iblk m c 0 k) ∗ bigSep (from_ k.val) (fun k => iprop(∃ f, pcs c 0 k f)))
      ⊢ iprop((owns (c : Thread nD τ) arg1 fullShare (iblk m c 0 k) ∗ pcs c 0 k (comm m c)
            ∗ bigSep (from_ (k.val + 1)) (fun k => iprop(∃ f, pcs c 0 k f)) -∗
          wp frame (wpE (defs₀ (F := F)) 𝒱₀ (c : Thread nD τ) none) Set.univ (K ⟨⟩) Q)
        -∗ wp frame (wpE (defs₀ (F := F)) 𝒱₀ (c : Thread nD τ) none) Set.univ
            (.op (.load arg1 (Rect.unit (s := S1024x1024) ![0, 0] S1024x1024.size inb_S1024x1024_S1024x1024_0_0).toLoadRect h1) fun v =>
              .op (.load scr (Rect.unit (s := S2x32x128) off S1x8x128.size inb).toLoadRect h2) fun _ =>
                .op (.store scr (Rect.unit (s := S2x32x128) off S1x8x128.size inb) (k0_pay2 v) Finset.univ h3 h4) K) Q) := by
  subst hoff
  have hs : bigSep (from_ k.val) (fun k => iprop(∃ f, pcs c 0 k f))
      ⊢ (iprop((∃ f, pcs c 0 k f) ∗ bigSep (from_ (k.val + 1)) (fun k => iprop(∃ f, pcs c 0 k f))) : sProp 𝕄) := by
    rw [from_step, bigSep_insert (from_fresh k)]; exact BI.Entails.refl _
  unfold owns
  iintro ⟨⟨%f, %hf, Hx⟩, Hs⟩ HK
  ihave Hs' := hs $$ Hs
  icases Hs' with ⟨⟨%g, Hg⟩, Hr⟩
  iapply (wp_load 𝒱₀ (c : Thread nD τ) none Set.univ (m := arg1) (S := arg1.view.set) (q := fullShare) (f := f)
    (View.setOn_subset_set _ _)) $$ Hx
  iintro Hx
  unfold pcs
  iapply (wp_load 𝒱₀ (c : Thread nD τ) none Set.univ (m := scr) (S := (pieceRect 0 k).set) (q := fullShare) (f := g)
    (by exact le_of_eq Finset.map_refl)) $$ Hg
  iintro Hg
  iapply (wp_store 𝒱₀ (c : Thread nD τ) none Set.univ (m := scr) (r := pieceRect 0 k) (Mk := Finset.univ) (S := (pieceRect 0 k).set) (f := g)
    (by exact le_of_eq (View.set_slice_whole _ _))) $$ Hg
  iintro Hg
  rw [View.readAt_full, hf]
  iapply HK
  isplitl [Hx]
  · iexists f; isplitr; · ipureintro; exact hf
    iexact Hx
  isplitl [Hg]
  · have := stored m c k g; unfold pcs at this
    iapply (Entails.of_eq this); iexact Hg
  iexact Hr

/-! ## Copying a piece to the mate -/

/-- The pieces before piece `n`. -/
def before_ (n : ℕ) : Finset (Fin 4) := Finset.univ.filter fun k => k.val < n

/-- No piece is before piece 0. -/
theorem before_zero : before_ 0 = ∅ := by decide
/-- All four pieces are before piece 4. -/
theorem before_end : before_ 4 = Finset.univ := by decide
/-- Past piece `k`, piece `k` joins those before. -/
theorem before_step (k : Fin 4) : before_ (k.val + 1) = insert k (before_ k.val) := by revert k; decide
/-- Piece `k` is not before itself. -/
theorem before_fresh (k : Fin 4) : k ∉ before_ k.val := by revert k; decide

/-- What the copy of piece `k` needs besides the piece: the landing place at the mate, the two duty tokens it pays, and that
    both cells it reports to are open. -/
def todo (c : Dev nD) (k : Fin 4) : sProp 𝕄 :=
  iprop(((∃ f, pcs (peer c) 1 k f) ∗ reached ER (cell (peer c) (1, k)) 0) ∗ tokens c k ∗ reached ER (cell c (0, k)) 0)

/-- The credit of the own send cell of a piece whose copy is under way. -/
def sent (c : Dev nD) (k : Fin 4) : sProp 𝕄 := cred (tallyAt (cell c (0, k)) () N)

/-- A copy of piece `k` from slab 0 to slab 1 of the mate's scratch: it gives away the piece and the landing place, discharges
    the credit owed on the mate's receive cell, and leaves the credit of the own send cell. -/
theorem wp_copy_piece (K : GSem nD τ sig → ℕ) (c n : Dev nD) (hn : n = peer c) (k : Fin 4) {W : Waits sig Unit}
    {h1 h2 h3} {α : Type} {Kt : PUnit → Prog (TpuEff nD τ sig (Elt F) Λ₀ .tc) α} {Q : α → sProp 𝕄} :
    iprop(records m K ∗ pcs c 0 k (comm m c) ∗ bigSep (from_ k.val) (todo c) ∗ bigSep (before_ k.val) (sent c)
        ∗ owes (c : Thread nD τ) (owing c k.val) W)
      ⊢ iprop((bigSep (from_ (k.val + 1)) (todo c) ∗ bigSep (before_ (k.val + 1)) (sent c) ∗ owes (c : Thread nD τ) (owing c (k.val + 1)) W -∗
          wp frame (wpE (defs₀ (F := F)) 𝒱₀ (c : Thread nD τ) none) Set.univ (Kt ⟨⟩) Q)
        -∗ wp frame (wpE (defs₀ (F := F)) 𝒱₀ (c : Thread nD τ) none) Set.univ
            (.op (.enqueueDma (piece 0 k) (.remote (Dev.tc n) (piece 1 k) (.dma (dsem (0, k)))) (.dma (dsem (1, k))) h1 h2 h3) Kt) Q) := by
  subst hn
  have ht : bigSep (from_ k.val) (todo c) ⊢ (iprop(todo c k ∗ bigSep (from_ (k.val + 1)) (todo c)) : sProp 𝕄) := by
    rw [from_step, bigSep_insert (from_fresh k)]; exact BI.Entails.refl _
  have hs : iprop(sent c k ∗ bigSep (before_ k.val) (sent c)) ⊢ (bigSep (before_ (k.val + 1)) (sent c) : sProp 𝕄) := by
    rw [before_step, bigSep_insert (before_fresh k)]; exact BI.Entails.refl _
  iintro ⟨#HR, Hp, Ht, Hs, HO⟩ HK
  ihave Ht' := ht $$ Ht
  icases Ht' with ⟨Hk, Hr⟩
  unfold todo tokens
  icases Hk with ⟨⟨⟨%fn, Hd⟩, #Hr1⟩, ⟨Ht0, Ht1⟩, #Hr0⟩
  iapply (Rounds.wp_send_pointsTo 𝒱₀ ER (sched m) (c : Thread nD τ) none (c' := (peer c : Thread nD τ)) (src := piece 0 k) (dst := piece 1 k)
      (sS := .dma (dsem (0, k))) (sem := .dma (dsem (1, k))) (q := fullShare) (fs := comm m c)
      (κ₁ := K (cell c (0, k))) (κ₂ := K (cell (peer c) (1, k)))
      (r₁ := 0) (r₂ := 0) (d₁ := ()) (d₂ := ()) (fd := fn)
      (duty_mem m c (talks_osem (0, k))) (duty_mem m (peer c) (talks_osem (1, k)))
      () () N rfl rfl rfl (owing c (k.val + 1)) ((owing_step c k).trans (add_comm _ _)) (W := W)
      (by rw [payload_port]; unfold pcs; rw [piece_set])
      (by rw [payload_port, ← landed m c k fn]; unfold pcs; rw [piece_set])) $$ [Hp Hd HO Ht0 Ht1]
  · isplitr; · iapply (inv_port m K c (0, k)); iexact HR
    isplitr; · iapply (inv_port m K (peer c) (1, k)); iexact HR
    isplitl [Hp]; · rw [piece_set]; unfold pcs; iexact Hp
    isplitl [Hd]; · rw [piece_set]; unfold pcs; iexact Hd
    isplitl [HO]; · iexact HO
    isplitl [Ht0]; · iexact Ht0
    isplitr; · iexact Hr0
    isplitl [Ht1]; · iexact Ht1
    iexact Hr1
  iintro ⟨Hc, HO⟩
  iapply HK
  isplitl [Hr]; · iexact Hr
  isplitl [Hc Hs]
  · iapply hs; unfold sent; isplitl [Hc]; · iexact Hc
    iexact Hs
  iexact HO

/-! ## Waiting on the ports -/

/-- What a wait on a port spends. -/
def pending (c : Dev nD) (p : Port) : sProp 𝕄 := iprop(atPos ER (cell c p) 0 ∅ 0 ∗ cred (tallyAt (cell c p) () N))

/-- What a wait on a port gives: its piece, holding what it holds at the end of the exchange, and its counter at zero. -/
def settled (c : Dev nD) (p : Port) : sProp 𝕄 := iprop(pcs c p.1 p.2 (comm m c) ∗ semVal (cell c p) 0)

/-- The order of the waits: both ports of piece 0, of piece 1, … -/
def turn (p : Port) : ℕ := 2 * p.2.val + p.1.val
/-- The ports still to be waited on at turn `n`. -/
def ahead (n : ℕ) : Finset Port := Finset.univ.filter fun p => n ≤ turn p
/-- The ports already waited on at turn `n`. -/
def behind (n : ℕ) : Finset Port := Finset.univ.filter fun p => turn p < n

/-- At its turn a port is the next of those ahead. -/
theorem ahead_step (p : Port) : ahead (turn p) = insert p (ahead (turn p + 1)) := by revert p; decide
/-- After its turn a port is not ahead. -/
theorem ahead_fresh (p : Port) : p ∉ ahead (turn p + 1) := by revert p; decide
/-- After its turn a port joins those behind. -/
theorem behind_step (p : Port) : behind (turn p + 1) = insert p (behind (turn p)) := by revert p; decide
/-- At its turn a port is not behind yet. -/
theorem behind_fresh (p : Port) : p ∉ behind (turn p) := by revert p; decide
/-- At the start every port is ahead. -/
theorem ahead_zero : ahead 0 = Finset.univ := by decide
/-- At the start no port is behind. -/
theorem behind_zero : behind 0 = ∅ := by decide
/-- After eight turns every port is behind. -/
theorem behind_end : behind 8 = Finset.univ := by decide

/-- Where the waits stand before turn `n`. -/
def waits (c : Dev nD) (n : ℕ) : sProp 𝕄 :=
  iprop(bigSep (ahead n) (pending c) ∗ bigSep (behind n) (settled m c) ∗ ∃ W, owes (c : Thread nD τ) (0 : CellTallies nD τ sig Unit) W)

/-- At its turn a port's wait can be taken out of those ahead. -/
theorem waits_take (c : Dev nD) (p : Port) :
    (waits m c (turn p) : sProp 𝕄) = iprop((pending c p ∗ bigSep (ahead (turn p + 1)) (pending c)) ∗ bigSep (behind (turn p)) (settled m c)
      ∗ ∃ W, owes (c : Thread nD τ) (0 : CellTallies nD τ sig Unit) W) := by
  unfold waits; rw [ahead_step, bigSep_insert (ahead_fresh p)]; rfl
/-- After its turn a port's piece can be put among those behind. -/
theorem waits_give (c : Dev nD) (p : Port) :
    (waits m c (turn p + 1) : sProp 𝕄) = iprop(bigSep (ahead (turn p + 1)) (pending c) ∗ (settled m c p ∗ bigSep (behind (turn p)) (settled m c))
      ∗ ∃ W, owes (c : Thread nD τ) (0 : CellTallies nD τ sig Unit) W) := by
  unfold waits; rw [behind_step, bigSep_insert (behind_fresh p)]; rfl

/-- A wait on a port, at its turn: the piece comes back and the port closes. -/
theorem wp_wait_port (K : GSem nD τ sig → ℕ) (c : Dev nD) (p : Port) {src dst : Memref sig .tc .vmem S8x128 .f32}
    {h1 h2} {α : Type} {Kt : PUnit → Prog (TpuEff nD τ sig (Elt F) Λ₀ .tc) α} {Q : α → sProp 𝕄} :
    iprop(records m K ∗ waits m c (turn p))
      ⊢ iprop((waits m c (turn p + 1) -∗ wp frame (wpE (defs₀ (F := F)) 𝒱₀ (c : Thread nD τ) none) Set.univ (Kt ⟨⟩) Q)
        -∗ wp frame (wpE (defs₀ (F := F)) 𝒱₀ (c : Thread nD τ) none) Set.univ (.op (.waitDma2 (dsem p) src dst h1 h2) Kt) Q) := by
  rw [waits_take, waits_give]
  unfold pending
  have hN : dst.view.dmaCredit = N := rfl
  iintro ⟨#HR, ⟨⟨Ha, Hc⟩, Hr⟩, Hb, ⟨%W, HO⟩⟩ HK
  iapply (Rounds.wp_wait_rest_token 𝒱₀ ER (sched m) (c : Thread nD τ) none (κ := K (cell c p))
      (wpE_waitDma2_eq (src := src) (dst := dst) 𝒱₀ (c : Thread nD τ) none Set.univ) (Set.mem_univ _) () (O := 0) (W := W) (R := 0) (m := 0) (T := ∅)
      ((Nat.zero_add _).trans (hN.trans (expect_port m c p).symm))) $$ [Ha Hc HO]
  · isplitr; · iapply (inv_port m K c p); iexact HR
    isplitl [Hc]; · rw [hN]; iexact Hc
    isplitl [HO]; · iexact HO
    isplitr; · rw [MayWait_zero]; iempintro
    iexact Ha
  iintro ⟨HO, Ha, -, Hp⟩
  ihave Hp' := (Entails.of_eq ((rest_first m c (talks_osem p)).trans (payload_port m c p))) $$ Hp
  imod (close m (K (cell c p)) (cell c p)) $$ [Ha] with Hv
  · isplitr; · iapply (inv_port m K c p); iexact HR
    iexact Ha
  iapply HK
  isplitl [Hr]; · iexact Hr
  isplitl [Hp' Hv Hb]
  · isplitl [Hp' Hv]
    · unfold settled; isplitl [Hp'] <;> iassumption
    iexact Hb
  iexists _; iexact HO

/-! ## Adding the slabs -/

/-- With the exchange over, a device loads both slabs and stores their sum to its result window. -/
theorem wp_add (c : Dev nD) (arg2 : Memref sig .tc .vmem S32x128 .f32) (X : S32x128.Idx → Elt F .f32)
    {h1 h2 h3 h4 h5} {α : Type} {K : PUnit → Prog (TpuEff nD τ sig (Elt F) Λ₀ .tc) α} {Q : α → sProp 𝕄} :
    iprop(owns (c : Thread nD τ) arg2 fullShare X ∗ (((c : Thread nD τ).loc cc0_scratch0) ↦{fullShare} comm m c))
      ⊢ iprop((owns (c : Thread nD τ) arg2 fullShare (outAt m c) ∗ (((c : Thread nD τ).loc cc0_scratch0) ↦{fullShare} comm m c) -∗
          wp frame (wpE (defs₀ (F := F)) 𝒱₀ (c : Thread nD τ) none) Set.univ (K ⟨⟩) Q)
        -∗ wp frame (wpE (defs₀ (F := F)) 𝒱₀ (c : Thread nD τ) none) Set.univ
            (.op (.load scr (Rect.unit (s := S2x32x128) ![0, 0, 0] S1x32x128.size inb_S2x32x128_S1x32x128_0_0_0).toLoadRect h1) fun v =>
              .op (.load scr (Rect.unit (s := S2x32x128) ![1, 0, 0] S1x32x128.size inb_S2x32x128_S1x32x128_1_0_0).toLoadRect h2) fun w =>
                .op (.load arg2 (Rect.unit (s := S32x128) ![0, 0] S32x128.size inb_S32x128_S32x128_0_0).toLoadRect h3) fun _ =>
                  .op (.store arg2 (Rect.unit (s := S32x128) ![0, 0] S32x128.size inb_S32x128_S32x128_0_0) (k0_pay1 v w) Finset.univ h4 h5) K) Q) := by
  unfold owns
  iintro ⟨⟨%f, %hf, Ho⟩, Hs⟩ HK
  iapply (wp_load 𝒱₀ (c : Thread nD τ) none Set.univ (m := scr) (S := Finset.univ) (q := fullShare) (f := comm m c) (Finset.subset_univ _)) $$ Hs
  iintro Hs
  iapply (wp_load 𝒱₀ (c : Thread nD τ) none Set.univ (m := scr) (S := Finset.univ) (q := fullShare) (f := comm m c) (Finset.subset_univ _)) $$ Hs
  iintro Hs
  iapply (wp_load 𝒱₀ (c : Thread nD τ) none Set.univ (m := arg2) (S := arg2.view.set) (q := fullShare) (f := f) (View.setOn_subset_set _ _)) $$ Ho
  iintro Ho
  iapply (wp_store 𝒱₀ (c : Thread nD τ) none Set.univ (m := arg2) (r := Rect.unit (s := S32x128) ![0, 0] S32x128.size inb_S32x128_S32x128_0_0)
    (Mk := Finset.univ) (S := arg2.view.set) (f := f) (Memref.setOn_access_subset _ _ _)) $$ Ho
  iintro Ho
  iapply HK
  isplitl [Ho]
  · iexists _
    isplitr
    rotate_left
    · iexact Ho
    · ipureintro; exact View.read_writes_full arg2.view f inb_S32x128_S32x128_0_0 (outAt m c) []
  iexact Hs

end Cert.RowSum
-- ==== Proof.Steps.lean ====
/-
The kernel at each of its four points, on one device: what it starts from, and what it leaves for the next point.
-/
module

public import proofs.«01_k».proof.Proof.Body

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The report that a device is ready, and the wait for the mate's -/

/-- A device reports ready to its mate: it hands over slab 1 of its scratch, and that its receive cells are open. -/
theorem wp_report (K : GSem nD τ sig → ℕ) (c n : Dev nD) (hn : n = peer c) {W : Waits sig Unit}
    {α : Type} {Kt : PUnit → Prog (TpuEff nD τ sig (Elt F) Λ₀ .tc) α} {Q : α → sProp 𝕄} :
    iprop(records m K ∗ dutyTok ER (barCell (peer c)) 0 () ∗ bigSep Finset.univ (fun k : Fin 4 => iprop(∃ f, pcs c 1 k f))
        ∗ bigSep Finset.univ (fun k : Fin 4 => reached ER (cell c (1, k)) 0) ∗ owes (c : Thread nD τ) (owed₀ c) W)
      ⊢ iprop((owes (c : Thread nD τ) (owing c 0) W -∗ wp frame (wpE (defs₀ (F := F)) 𝒱₀ (c : Thread nD τ) none) Set.univ (Kt ⟨⟩) Q)
        -∗ wp frame (wpE (defs₀ (F := F)) 𝒱₀ (c : Thread nD τ) none) Set.univ
            (.op (.semSignal (n, Proc.tc) barrier0 (1#32).toInt) Kt) Q) := by
  subst hn
  iintro ⟨#HR, Ht, Hp, Hr, HO⟩ HK
  iapply (Rounds.wp_signal 𝒱₀ ER (sched m) (c : Thread nD τ) none (dst := (peer c : Thread nD τ)) (sem := barrier0) (r := 0) (d := ())
      (κ := K (barCell (peer c))) (duty_mem m (peer c) talks_bar) (by show (1 : ℕ) = _; decide) () (owing c 0) rfl) $$ [Ht Hp Hr HO]
  · isplitr; · iapply (inv_bar m K (peer c)); iexact HR
    isplitl [HO]; · iexact HO
    isplitl [Ht]; · iexact Ht
    isplitl [Hp Hr]
    · rw [payload_bar]; unfold barPay; rw [peer_peer, bigSep_sep']
      isplitl [Hp] <;> iassumption
    · iapply (reached_bar m K (peer c)); iexact HR
  iintro HO
  iapply HK; iexact HO

/-- A device waits for its mate's report: slab 1 of the mate's scratch comes with it, and the barrier cell closes. -/
theorem wp_await (K : GSem nD τ sig → ℕ) (c : Dev nD) {W : Waits sig Unit}
    {α : Type} {Kt : PUnit → Prog (TpuEff nD τ sig (Elt F) Λ₀ .tc) α} {Q : α → sProp 𝕄} :
    iprop(records m K ∗ levAts L lv ∗ atPos ER (barCell c) 0 ∅ 0 ∗ cred (tallyAt (barCell c) () 1) ∗ owes (c : Thread nD τ) (owing c 0) W)
      ⊢ iprop((semVal (barCell c) 0 ∗ barPay c ∗ (∃ W, owes (c : Thread nD τ) (owing c 0) W) -∗
          wp frame (wpE (defs₀ (F := F)) 𝒱₀ (c : Thread nD τ) none) Set.univ (Kt ⟨⟩) Q)
        -∗ wp frame (wpE (defs₀ (F := F)) 𝒱₀ (c : Thread nD τ) none) Set.univ (.op (.semWait barrier0 (1#32).toInt) Kt) Q) := by
  iintro ⟨#HR, #Hl, Ha, Hc, HO⟩ HK
  iapply (Rounds.wp_wait_rest_token 𝒱₀ ER (sched m) (c : Thread nD τ) none (κ := K (barCell c))
      (wpE_semWait_eq 𝒱₀ (c : Thread nD τ) none Set.univ) (Set.mem_univ _) () (O := owing c 0) (W := W) (R := 0) (m := 0) (T := ∅)
      (by rw [expect_bar]; decide)) $$ [Ha Hc HO]
  · isplitr; · iapply (inv_bar m K c); iexact HR
    isplitl [Hc]; · iexact Hc
    isplitl [HO]; · iexact HO
    isplitr; · iapply (mayWait_bar c); iexact Hl
    iexact Ha
  iintro ⟨HO, Ha, -, Hp⟩
  ihave Hp' := (Entails.of_eq ((rest_first m c talks_bar).trans (payload_bar m c))) $$ Hp
  imod (close m (K (barCell c)) (barCell c)) $$ [Ha] with Hv
  · isplitr; · iapply (inv_bar m K c); iexact HR
    iexact Ha
  iapply HK
  isplitl [Hv]; · iexact Hv
  isplitl [Hp']; · iexact Hp'
  iexists _; iexact HO

/-! ## Which branches a point takes -/

/-- The test `point = r` as the program computes it on words. -/
theorem test_iff (n r : Fin 4) :
    Iff (Scalar.cmpi .ne (Scalar.extui (Scalar.cmpi .eq (BitVec.ofNat 32 n.val) (BitVec.ofNat 32 r.val)) : BitVec 32) 0#32 = 1#1) (n = r) := by
  revert n r; decide

/-! ## Between the points -/

/-- What a device holds before point `n`, past the first: its barrier cell closed, its ports open and not yet waited on, the
    copies of the pieces before `n` under way, and what the pieces from `n` on need. -/
def mid (c : Dev nD) (n : ℕ) : sProp 𝕄 :=
  iprop((∃ K, records m K) ∗ semVal (barCell c) 0 ∗ (bigSep Finset.univ fun p : Port => atPos ER (cell c p) 0 ∅ 0)
    ∗ (bigSep Finset.univ fun k : Fin 4 => cred (tallyAt (cell c (1, k)) () N))
    ∗ bigSep (before_ n) (sent c) ∗ (bigSep (from_ n) fun k => iprop(∃ f, pcs c 0 k f)) ∗ bigSep (from_ n) (todo c))

/-- What a device holds in the end: all its counters at zero and its scratch, whole again. -/
def over (c : Dev nD) : sProp 𝕄 :=
  iprop(semVal (barCell c) 0 ∗ Pipeline.ownSems0 osem c ∗ ∃ f, ((c : Thread nD τ).loc cc0_scratch0) ↦{fullShare} f)

/-- A whole scratch buffer gives the eight pieces, each at some contents. -/
theorem scr_split (c : Dev nD) (f : Buf (Elt F) ((c : Thread nD τ).loc cc0_scratch0)) :
    (((c : Thread nD τ).loc cc0_scratch0) ↦{fullShare} f : sProp 𝕄)
      ⊢ iprop((bigSep Finset.univ fun k : Fin 4 => iprop(∃ f, pcs c 0 k f)) ∗ bigSep Finset.univ fun k : Fin 4 => iprop(∃ f, pcs c 1 k f)) := by
  rw [scr_pieces]
  have h (b : Fin 2) : bigSep Finset.univ (fun k : Fin 4 => pcs c b k f) ⊢ (bigSep Finset.univ fun k : Fin 4 => iprop(∃ f, pcs c b k f) : sProp 𝕄) :=
    bigSep_mono fun k _ => BIClass.exists_intro (Φ := fun f => (pcs c b k f : sProp 𝕄)) f
  exact BI.sep_mono (h 0) (h 1)

/-- The two parts of the open ports. -/
theorem opened_split (c : Dev nD) : (bigSep Finset.univ fun p : Port => (opened c p : sProp 𝕄))
    ⊢ iprop((bigSep Finset.univ fun p : Port => atPos ER (cell c p) 0 ∅ 0)
      ∗ (bigSep Finset.univ fun k : Fin 4 => reached ER (cell c (0, k)) 0) ∗ bigSep Finset.univ fun k : Fin 4 => reached ER (cell c (1, k)) 0) := by
  unfold opened
  rw [bigSep_sep', bigSep_univ_prod (fun p : Port => (reached ER (cell c p) 0 : sProp 𝕄)), bigSep_fin_two]
  exact BI.Entails.refl _

/-- What the copies need is what the mate's report brings, the tokens, and that the send cells are open. -/
theorem todo_all (c : Dev nD) : iprop(barPay c ∗ (bigSep Finset.univ fun k : Fin 4 => tokens c k) ∗ bigSep Finset.univ fun k : Fin 4 => reached ER (cell c (0, k)) 0)
    ⊢ (bigSep (from_ 0) (todo c) : sProp 𝕄) := by
  rw [from_zero]
  have h : (bigSep Finset.univ (todo c) : sProp 𝕄) = (bigSep Finset.univ fun k : Fin 4 =>
      (iprop(((∃ f, pcs (peer c) 1 k f) ∗ reached ER (cell (peer c) (1, k)) 0) ∗ tokens c k ∗ reached ER (cell c (0, k)) 0) : sProp 𝕄)) := by
    unfold todo; rfl
  unfold barPay
  rw [h, bigSep_sep', bigSep_sep', bigSep_sep', bigSep_sep']

/-- With every copy under way, all waits are ahead. -/
theorem waits_start (c : Dev nD) (W : Waits sig Unit) :
    iprop((bigSep Finset.univ fun p : Port => atPos ER (cell c p) 0 ∅ 0) ∗ bigSep (before_ 4) (sent c)
        ∗ (bigSep Finset.univ fun k : Fin 4 => cred (tallyAt (cell c (1, k)) () N)) ∗ owes (c : Thread nD τ) (owing c 4) W)
      ⊢ (waits m c 0 : sProp 𝕄) := by
  have h : (bigSep Finset.univ (pending c) : sProp 𝕄) = iprop((bigSep Finset.univ fun p : Port => atPos ER (cell c p) 0 ∅ 0)
      ∗ (bigSep Finset.univ (sent c)) ∗ bigSep Finset.univ fun k : Fin 4 => cred (tallyAt (cell c (1, k)) () N)) := by
    show (bigSep Finset.univ fun p : Port => (iprop(atPos ER (cell c p) 0 ∅ 0 ∗ cred (tallyAt (cell c p) () N)) : sProp 𝕄)) = _
    rw [bigSep_sep', bigSep_univ_prod (fun p : Port => (cred (tallyAt (cell c p) () N) : sProp 𝕄)), bigSep_fin_two]
    rfl
  unfold waits
  rw [ahead_zero, behind_zero, bigSep_empty, h, before_end, owing_end]
  iintro ⟨Ha, Hs, Hc, HO⟩
  isplitl [Ha Hs Hc]
  · isplitl [Ha]; · iexact Ha
    isplitl [Hs] <;> iassumption
  isplitr; · iempintro
  iexists W; iexact HO

/-- With every wait behind, the scratch is whole, at what the exchange leaves there, and every port's counter is at zero. -/
theorem waits_end (c : Dev nD) :
    (waits m c 8 : sProp 𝕄) ⊢ iprop(Pipeline.ownSems0 osem c ∗ (((c : Thread nD τ).loc cc0_scratch0) ↦{fullShare} comm m c)
      ∗ ∃ W, owes (c : Thread nD τ) (0 : CellTallies nD τ sig Unit) W) := by
  have h : (bigSep Finset.univ (settled m c) : sProp 𝕄) = iprop((((c : Thread nD τ).loc cc0_scratch0) ↦{fullShare} comm m c) ∗ Pipeline.ownSems0 osem c) := by
    show (bigSep Finset.univ fun p : Port => (iprop(pcs c p.1 p.2 (comm m c) ∗ semVal (cell c p) 0) : sProp 𝕄)) = _
    rw [bigSep_sep', bigSep_univ_prod (fun p : Port => (pcs c p.1 p.2 (comm m c) : sProp 𝕄)), bigSep_fin_two, scr_pieces]
    rfl
  unfold waits
  rw [behind_end, h]
  iintro ⟨-, ⟨Hs, Hv⟩, HO⟩
  isplitl [Hv]; · iexact Hv
  isplitl [Hs] <;> iassumption

end Cert.RowSum
-- ==== Proof.Points.lean ====
/-
The kernel at each of its four points, on one device.
-/
module

public import proofs.«01_k».proof.Proof.Steps

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which branches a point takes -/

/-- Point `k` stores its sums at row `8 k` of slab 0. -/
theorem offset_at (i : grid0.Coords) (k : Fin 4) (hi : (i 0).val = k.val) : k0_off1 i = ![0, 8 * k.val, 0] := by rw [k0_off1_eq, hi]

section Tests
variable (i : grid0.Coords) (k : Fin 4) (hi : (i 0).val = k.val)
include hi

/-- The report to the mate is made at point 0 only. -/
theorem test1 : Iff (k0_cond1 i = 1#1) (k = 0) := by unfold k0_cond1; rw [hi]; exact test_iff k 0
/-- The mate's report is waited for at point 0 only. -/
theorem test2 : Iff (Scalar.cmpi .ne (Scalar.extui (Scalar.cmpi .eq (BitVec.ofNat 32 (i 0).val) 0#32) : BitVec 32) 0#32 = 1#1) (k = 0) := by
  rw [hi]; exact test_iff k 0
/-- Piece 0 is sent at point 0 only. -/
theorem test3 : Iff (k0_cond3 i = 1#1) (k = 0) := by unfold k0_cond3; rw [hi]; exact test_iff k 0
/-- Piece 1 is sent at point 1 only. -/
theorem test4 : Iff (k0_cond4 i = 1#1) (k = 1) := by unfold k0_cond4; rw [hi]; exact test_iff k 1
/-- Piece 2 is sent at point 2 only. -/
theorem test5 : Iff (k0_cond5 i = 1#1) (k = 2) := by unfold k0_cond5; rw [hi]; exact test_iff k 2
/-- Piece 3 is sent at point 3 only. -/
theorem test6 : Iff (k0_cond6 i = 1#1) (k = 3) := by unfold k0_cond6; rw [hi]; exact test_iff k 3
/-- The copies are waited for, and the result written, at point 3 only. -/
theorem test7 : Iff (k0_cond7 i = 1#1) (k = 3) := by unfold k0_cond7; rw [hi]; exact test_iff k 3
end Tests

variable (c : Dev nD) (i : grid0.Coords) (arg1 : Memref sig .tc .vmem S1024x1024 .f32) (harg1 : arg1.IsWhole)
  (arg2 : Memref sig .tc .vmem S32x128 .f32) (harg2 : arg2.IsWhole) (h3 : scr.IsWhole)

set_option maxHeartbeats 800000 in
/-- The first point: the device reports ready, sums its block, waits for its mate's report, and copies piece 0. -/
theorem body_first (hi : (i 0).val = (0 : Fin 4).val) (W : Waits sig Unit) (Q : PUnit → sProp 𝕄) :
    iprop(ready m c ∗ (∃ f, ((c : Thread nD τ).loc cc0_scratch0) ↦{fullShare} f) ∗ owns (c : Thread nD τ) arg1 fullShare (iblk m c 0 (0 : Fin 4))
        ∗ owes (c : Thread nD τ) (owed₀ c) W)
      ⊢ iprop((mid m c 1 ∗ owns (c : Thread nD τ) arg1 fullShare (iblk m c 0 (0 : Fin 4)) ∗ (∃ W, owes (c : Thread nD τ) (owing c 1) W) -∗ Q ⟨⟩)
        -∗ wp frame (wpE (defs₀ (F := F)) 𝒱₀ (c : Thread nD τ) none) Set.univ
            (cc0_body (F := F) i arg1 harg1 arg2 harg2 scr h3 cc0_scratch1 cc0_scratch2) Q) := by
  rw [cc0_body_eq_skeleton]; unfold cc0_body_skel
  rw [k0_part3_eq_skeleton]; unfold k0_part3_skel
  simp only [dif_pos ((test1 i 0 hi).2 rfl), dif_pos ((test2 i 0 hi).2 rfl), dif_pos ((test3 i 0 hi).2 rfl),
    dif_neg (mt (test4 i 0 hi).1 (by decide)), dif_neg (mt (test5 i 0 hi).1 (by decide)), dif_neg (mt (test6 i 0 hi).1 (by decide)),
    dif_neg (mt (test7 i 0 hi).1 (by decide)),
    semSignalWord, semWaitWord, Prog.lift, Prog.bind_op, Prog.bind_ret, Prog.pure_eq_ret, wp_deviceId]
  unfold ready
  iintro ⟨⟨⟨%K, #HR⟩, #Hl, Hb, Hp, Htb, Ht, Hcb, Hcr⟩, ⟨%f, Hs⟩, Hx, HO⟩ HQ
  ihave Hp' := (opened_split c) $$ Hp
  icases Hp' with ⟨Ha, Hr0, Hr1⟩
  ihave Hs' := (scr_split c f) $$ Hs
  icases Hs' with ⟨Hs0, Hs1⟩
  iapply (wp_report m K c _ (Fin.ext (k0_dev1_eq c))) $$ [Htb Hs1 Hr1 HO]
  · isplitr; · iexact HR
    isplitl [Htb]; · iexact Htb
    isplitl [Hs1]; · iexact Hs1
    isplitl [Hr1]; · iexact Hr1
    iexact HO
  iintro HO
  iapply (wp_sum m c 0 arg1 (offset_at i 0 hi)) $$ [Hx Hs0]
  · rw [show from_ (0 : Fin 4).val = Finset.univ from from_zero]
    isplitl [Hx] <;> iassumption
  iintro ⟨Hx, Hg, Hs0⟩
  iapply (wp_await m K c) $$ [Hb Hcb HO]
  · isplitr; · iexact HR
    isplitr; · iexact Hl
    isplitl [Hb]; · iexact Hb
    isplitl [Hcb] <;> iassumption
  iintro ⟨Hv, Hbp, ⟨%W', HO⟩⟩
  ihave Htd := (todo_all c) $$ [Hbp Ht Hr0]
  · isplitl [Hbp]; · iexact Hbp
    isplitl [Ht] <;> iassumption
  iapply (wp_copy_piece m K c _ (Fin.ext (k0_dev2_eq c)) 0) $$ [Hg Htd HO]
  · isplitr; · iexact HR
    isplitl [Hg]; · iexact Hg
    isplitl [Htd]; · iexact Htd
    isplitr; · rw [show before_ (0 : Fin 4).val = ∅ from before_zero, bigSep_empty]; iempintro
    iexact HO
  iintro ⟨Htd, Hst, HO⟩
  rw [wp_ret]
  imodintro
  iapply HQ
  unfold mid
  isplitr [Hx HO]
  · isplitr; · iexists K; iexact HR
    isplitl [Hv]; · iexact Hv
    isplitl [Ha]; · iexact Ha
    isplitl [Hcr]; · iexact Hcr
    isplitl [Hst]; · iexact Hst
    isplitl [Hs0]; · iexact Hs0
    iexact Htd
  isplitl [Hx]; · iexact Hx
  iexists W'; iexact HO

/-- A later point sums its block into its piece and copies the piece. -/
theorem wp_point (k : Fin 4) (n : Dev nD) (hn : n = peer c) (hi : (i 0).val = k.val) (W : Waits sig Unit)
    {inb : ∀ a, k0_off1 i a + S1x8x128.size a ≤ S2x32x128.size a} {g1 g2 g3 g4 g5 g6 g7}
    {α : Type} {Kt : PUnit → Prog (TpuEff nD τ sig (Elt F) Λ₀ .tc) α} {Q : α → sProp 𝕄} :
    iprop(mid m c k.val ∗ owns (c : Thread nD τ) arg1 fullShare (iblk m c 0 k) ∗ owes (c : Thread nD τ) (owing c k.val) W)
      ⊢ iprop((mid m c (k.val + 1) ∗ owns (c : Thread nD τ) arg1 fullShare (iblk m c 0 k) ∗ owes (c : Thread nD τ) (owing c (k.val + 1)) W -∗
          wp frame (wpE (defs₀ (F := F)) 𝒱₀ (c : Thread nD τ) none) Set.univ (Kt ⟨⟩) Q)
        -∗ wp frame (wpE (defs₀ (F := F)) 𝒱₀ (c : Thread nD τ) none) Set.univ
            (.op (.load arg1 (Rect.unit (s := S1024x1024) ![0, 0] S1024x1024.size inb_S1024x1024_S1024x1024_0_0).toLoadRect g1) fun v =>
              .op (.load scr (Rect.unit (s := S2x32x128) (k0_off1 i) S1x8x128.size inb).toLoadRect g2) fun _ =>
                .op (.store scr (Rect.unit (s := S2x32x128) (k0_off1 i) S1x8x128.size inb) (k0_pay2 v) Finset.univ g3 g4) fun _ =>
                  .op (.enqueueDma (piece 0 k) (.remote (Dev.tc n) (piece 1 k) (.dma (dsem (0, k)))) (.dma (dsem (1, k))) g5 g6 g7) Kt) Q) := by
  unfold mid
  iintro ⟨⟨⟨%K, #HR⟩, Hv, Ha, Hcr, Hst, Hs, Htd⟩, Hx, HO⟩ HQ
  iapply (wp_sum m c k arg1 (offset_at i k hi)) $$ [Hx Hs]
  · isplitl [Hx] <;> iassumption
  iintro ⟨Hx, Hg, Hs⟩
  iapply (wp_copy_piece m K c n hn k) $$ [Hg Htd Hst HO]
  · isplitr; · iexact HR
    isplitl [Hg]; · iexact Hg
    isplitl [Htd]; · iexact Htd
    isplitl [Hst] <;> iassumption
  iintro ⟨Htd, Hst, HO⟩
  iapply HQ
  isplitr [Hx HO]
  · isplitr; · iexists K; iexact HR
    isplitl [Hv]; · iexact Hv
    isplitl [Ha]; · iexact Ha
    isplitl [Hcr]; · iexact Hcr
    isplitl [Hst]; · iexact Hst
    isplitl [Hs] <;> iassumption
  isplitl [Hx] <;> iassumption

set_option maxHeartbeats 800000 in
/-- The second point. -/
theorem body_second (hi : (i 0).val = (1 : Fin 4).val) (W : Waits sig Unit) (Q : PUnit → sProp 𝕄) :
    iprop(mid m c 1 ∗ owns (c : Thread nD τ) arg1 fullShare (iblk m c 0 (1 : Fin 4)) ∗ owes (c : Thread nD τ) (owing c 1) W)
      ⊢ iprop((mid m c 2 ∗ owns (c : Thread nD τ) arg1 fullShare (iblk m c 0 (1 : Fin 4)) ∗ owes (c : Thread nD τ) (owing c 2) W -∗ Q ⟨⟩)
        -∗ wp frame (wpE (defs₀ (F := F)) 𝒱₀ (c : Thread nD τ) none) Set.univ
            (cc0_body (F := F) i arg1 harg1 arg2 harg2 scr h3 cc0_scratch1 cc0_scratch2) Q) := by
  rw [cc0_body_eq_skeleton]; unfold cc0_body_skel
  rw [k0_part3_eq_skeleton]; unfold k0_part3_skel
  simp only [dif_neg (mt (test1 i 1 hi).1 (by decide)), dif_neg (mt (test2 i 1 hi).1 (by decide)), dif_neg (mt (test3 i 1 hi).1 (by decide)),
    dif_pos ((test4 i 1 hi).2 rfl), dif_neg (mt (test5 i 1 hi).1 (by decide)), dif_neg (mt (test6 i 1 hi).1 (by decide)),
    dif_neg (mt (test7 i 1 hi).1 (by decide)),
    Prog.lift, Prog.bind_op, Prog.bind_ret, Prog.pure_eq_ret, wp_deviceId]
  iintro H HQ
  iapply (wp_point m c i arg1 1 _ (Fin.ext (k0_dev3_eq c)) hi W) $$ [H]
  · iexact H
  iintro H
  rw [wp_ret]
  imodintro
  iapply HQ; iexact H

set_option maxHeartbeats 800000 in
/-- The third point. -/
theorem body_third (hi : (i 0).val = (2 : Fin 4).val) (W : Waits sig Unit) (Q : PUnit → sProp 𝕄) :
    iprop(mid m c 2 ∗ owns (c : Thread nD τ) arg1 fullShare (iblk m c 0 (2 : Fin 4)) ∗ owes (c : Thread nD τ) (owing c 2) W)
      ⊢ iprop((mid m c 3 ∗ owns (c : Thread nD τ) arg1 fullShare (iblk m c 0 (2 : Fin 4)) ∗ owes (c : Thread nD τ) (owing c 3) W -∗ Q ⟨⟩)
        -∗ wp frame (wpE (defs₀ (F := F)) 𝒱₀ (c : Thread nD τ) none) Set.univ
            (cc0_body (F := F) i arg1 harg1 arg2 harg2 scr h3 cc0_scratch1 cc0_scratch2) Q) := by
  rw [cc0_body_eq_skeleton]; unfold cc0_body_skel
  rw [k0_part3_eq_skeleton]; unfold k0_part3_skel
  simp only [dif_neg (mt (test1 i 2 hi).1 (by decide)), dif_neg (mt (test2 i 2 hi).1 (by decide)), dif_neg (mt (test3 i 2 hi).1 (by decide)),
    dif_neg (mt (test4 i 2 hi).1 (by decide)), dif_pos ((test5 i 2 hi).2 rfl), dif_neg (mt (test6 i 2 hi).1 (by decide)),
    dif_neg (mt (test7 i 2 hi).1 (by decide)),
    Prog.lift, Prog.bind_op, Prog.bind_ret, Prog.pure_eq_ret, wp_deviceId]
  iintro H HQ
  iapply (wp_point m c i arg1 2 _ (Fin.ext (k0_dev4_eq c)) hi W) $$ [H]
  · iexact H
  iintro H
  rw [wp_ret]
  imodintro
  iapply HQ; iexact H

set_option maxHeartbeats 1600000 in
/-- The last point: the last piece, the eight waits, and the sum of the slabs. -/
theorem body_last (hi : (i 0).val = (3 : Fin 4).val) (X : S32x128.Idx → Elt F .f32) (W : Waits sig Unit) (Q : PUnit → sProp 𝕄) :
    iprop(mid m c 3 ∗ owns (c : Thread nD τ) arg1 fullShare (iblk m c 0 (3 : Fin 4)) ∗ owns (c : Thread nD τ) arg2 fullShare X
        ∗ owes (c : Thread nD τ) (owing c 3) W)
      ⊢ iprop((over c ∗ owns (c : Thread nD τ) arg1 fullShare (iblk m c 0 (3 : Fin 4)) ∗ owns (c : Thread nD τ) arg2 fullShare (outAt m c)
            ∗ (∃ W, owes (c : Thread nD τ) (0 : CellTallies nD τ sig Unit) W) -∗ Q ⟨⟩)
        -∗ wp frame (wpE (defs₀ (F := F)) 𝒱₀ (c : Thread nD τ) none) Set.univ
            (cc0_body (F := F) i arg1 harg1 arg2 harg2 scr h3 cc0_scratch1 cc0_scratch2) Q) := by
  rw [cc0_body_eq_skeleton]; unfold cc0_body_skel
  rw [k0_part3_eq_skeleton, k0_part1_eq_skeleton, k0_part2_eq_skeleton]; unfold k0_part3_skel k0_part1_skel k0_part2_skel
  simp only [dif_neg (mt (test1 i 3 hi).1 (by decide)), dif_neg (mt (test2 i 3 hi).1 (by decide)), dif_neg (mt (test3 i 3 hi).1 (by decide)),
    dif_neg (mt (test4 i 3 hi).1 (by decide)), dif_neg (mt (test5 i 3 hi).1 (by decide)), dif_pos ((test6 i 3 hi).2 rfl),
    dif_pos ((test7 i 3 hi).2 rfl),
    Prog.lift, Prog.bind_op, Prog.bind_ret, Prog.pure_eq_ret, wp_deviceId]
  iintro ⟨Hm, Hx, Ho, HO⟩ HQ
  iapply (wp_point m c i arg1 3 _ (Fin.ext (k0_dev5_eq c)) hi W) $$ [Hm Hx HO]
  · isplitl [Hm]; · iexact Hm
    isplitl [Hx]; · iexact Hx
    iexact HO
  unfold mid
  iintro ⟨⟨⟨%K, #HR⟩, Hv, Ha, Hcr, Hst, -, -⟩, Hx, HO⟩
  ihave Hw := (waits_start m c W) $$ [Ha Hst Hcr HO]
  · isplitl [Ha]; · iexact Ha
    isplitl [Hst]; · iexact Hst
    isplitl [Hcr]; · iexact Hcr
    iexact HO
  iapply (wp_wait_port m K c (0, 0)) $$ [Hw]
  · isplitr; · iexact HR
    iexact Hw
  iintro Hw
  iapply (wp_wait_port m K c (1, 0)) $$ [Hw]
  · isplitr; · iexact HR
    iexact Hw
  iintro Hw
  iapply (wp_wait_port m K c (0, 1)) $$ [Hw]
  · isplitr; · iexact HR
    iexact Hw
  iintro Hw
  iapply (wp_wait_port m K c (1, 1)) $$ [Hw]
  · isplitr; · iexact HR
    iexact Hw
  iintro Hw
  iapply (wp_wait_port m K c (0, 2)) $$ [Hw]
  · isplitr; · iexact HR
    iexact Hw
  iintro Hw
  iapply (wp_wait_port m K c (1, 2)) $$ [Hw]
  · isplitr; · iexact HR
    iexact Hw
  iintro Hw
  iapply (wp_wait_port m K c (0, 3)) $$ [Hw]
  · isplitr; · iexact HR
    iexact Hw
  iintro Hw
  iapply (wp_wait_port m K c (1, 3)) $$ [Hw]
  · isplitr; · iexact HR
    iexact Hw
  iintro Hw
  ihave Hw' := (waits_end m c) $$ [Hw]
  · iexact Hw
  icases Hw' with ⟨Hz, Hs, HO⟩
  iapply (wp_add m c arg2 X) $$ [Ho Hs]
  · isplitl [Ho] <;> iassumption
  iintro ⟨Ho, Hs⟩
  rw [wp_ret]
  imodintro
  iapply HQ
  unfold over
  isplitl [Hv Hz Hs]
  · isplitl [Hv]; · iexact Hv
    isplitl [Hz]; · iexact Hz
    iexists _; iexact Hs
  isplitl [Hx]; · iexact Hx
  isplitl [Ho] <;> iassumption

end Cert.RowSum
-- ==== Proof.Region.lean ====
/-
The kernel call as one region: what its four points start from and leave.
-/
module

public import proofs.«01_k».proof.Proof.Points
public import proofs.«01_k».proof.Proof.Gen.KernelIdeal.Launch
public import proofs.«01_k».proof.Proof.Gen.KernelIdeal.Frame

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- What holds before point `n`, the pseudo-random register apart: the protocol at rest before the first point, three protocol
    states between, and everything returned after the last. -/
def stateAt (c : Dev nD) (n : ℕ) : sProp 𝕄 :=
  if n = 0 then iprop(ready m c ∗ ∃ f, ((c : Thread nD τ).loc cc0_scratch0) ↦{fullShare} f)
  else if n = 4 then over c else mid m c n

/-- What the device still owes before point `n`: every piece's arrival at the mate from `n` on, and before the first point its report too. -/
def owedAt (c : Dev nD) (n : ℕ) : CellTallies nD τ sig Unit := if n = 0 then owed₀ c else owing c n

/-- The region: the input's four blocks go in, and the result block leaves at `outAt`. -/
def dat (c : Dev nD) : Dat τ (Elt F) Unit ℕ UU ℕ cfg0 c where
  A w := V m c (Pipeline.arrRef spec0 w)
  after w t := match w with
    | 0 => iblk m c 0 t
    | 1 => outAt m c
    | ⟨_ + 2, h⟩ => absurd h (Nat.not_lt.2 (Nat.le_add_left _ _))
  Φ t := iprop(stateAt m c t.val ∗ ∃ r, prngReg c r)
  q _ := fullShare
  owed t := owedAt c t.val

/-- Before every point the input's staging buffer holds the point's block. -/
theorem before_in (c : Dev nD) (t : Fin cfg0.N) (d) : (dat m c).before 0 t d = iblk m c 0 t :=
  ((dat m c).before_in_eq_fetched 0 rfl (fun _ => rfl) (fun _ _ _ => rfl) (fun _ => rfl) t d).trans
    (by unfold Dat.fetched Dat.blockOf iblk; rfl)

/-- What a device owes at a point, put in the region's form. -/
theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO
  iexists W
  isplitr
  · ipureintro; exact fun _ _ => Or.inl trivial
  iexact HO

/-- What a device owes at a point, taken out of the region's form. -/
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-! ## One point, between the region's two states -/

/-- A point that leaves the result buffer as it found it. -/
theorem body_idle (c : Dev nD) (t : Fin cfg0.N) (ht : k0_cond7 (grid0.coords t) ≠ 1#1) (hf : (cfg0.win 1).flush t = false)
    (P P' : sProp 𝕄) (hP : (dat m c).Φ t.castSucc = iprop(P ∗ ∃ r, prngReg c r)) (hP' : (dat m c).Φ t.succ = iprop(P' ∗ ∃ r, prngReg c r))
    (run : ∀ (W : Waits sig Unit) (Q : PUnit → sProp 𝕄),
      iprop(P ∗ owns (c : Thread nD τ) (st0_0 t) fullShare (iblk m c 0 t) ∗ owes (c : Thread nD τ) ((dat m c).owed t.castSucc) W)
        ⊢ iprop((P' ∗ owns (c : Thread nD τ) (st0_0 t) fullShare (iblk m c 0 t) ∗ (∃ W, owes (c : Thread nD τ) ((dat m c).owed t.succ) W) -∗ Q ⟨⟩)
          -∗ wp frame (wpE (defs₀ (F := F)) 𝒱₀ (c : Thread nD τ) none) Set.univ (bodyAt0 (F := F) t) Q)) :
    iprop((dat m c).Φ t.castSucc ∗ (dat m c).owesAt () t.castSucc
        ∗ (∃ d, owns (c : Thread nD τ) (st0_0 t) fullShare ((dat m c).before 0 t d)) ∗ (∃ d, owns (c : Thread nD τ) (st0_1 t) fullShare ((dat m c).before 1 t d)))
      ⊢ wp frame (wpE (defs₀ (F := F)) 𝒱₀ (c : Thread nD τ) none) Set.univ (bodyAt0 (F := F) t) fun _ =>
        iprop((dat m c).Φ t.succ ∗ (dat m c).owesAt () t.succ
          ∗ owns (c : Thread nD τ) (st0_0 t) fullShare (iblk m c 0 t) ∗ (∃ d, owns (c : Thread nD τ) (st0_1 t) fullShare ((dat m c).before 1 t d))) := by
  rw [hP, hP']
  simp only [before_in]
  iintro ⟨⟨HP, Hr⟩, HO, ⟨%d, Hx⟩, Ho⟩
  ihave HO' := (owesAt_elim m c _ _ rfl) $$ HO
  icases HO' with ⟨%W, HO⟩
  iapply (run W _) $$ [HP Hx HO]
  · isplitl [HP]; · iexact HP
    isplitl [Hx]; · iexact Hx
    iexact HO
  iintro ⟨HP, Hx, ⟨%W', HO⟩⟩
  isplitl [HP Hr]
  · isplitl [HP]; · iexact HP
    iexact Hr
  isplitl [HO]; · iapply (owesAt_intro m c _ _ rfl W') $$ HO
  isplitl [Hx]; · iexact Hx
  iexact Ho

/-- The body, at every point of the grid. -/
theorem body (c : Dev nD) : BodyObligation (dat m c) (defs₀ (F := F)) 𝒱₀ () Set.univ := fun t => by
  rw [bigSep_W0, bigSep_W0]
  rcases fin_N0 t with rfl | rfl | rfl | rfl
  · exact body_idle m c t0_0 (by decide) (by decide)
      iprop(ready m c ∗ ∃ f, ((c : Thread nD τ).loc cc0_scratch0) ↦{fullShare} f) (mid m c 1) rfl rfl fun W Q => by
      iintro ⟨⟨Hp, Hs⟩, Hx, HO⟩ HQ
      iapply (body_first m c (grid0.coords t0_0) (st0_0 t0_0) _ (st0_1 t0_0) _ _ rfl W Q) $$ [Hp Hs Hx HO]
      · isplitl [Hp]; · iexact Hp
        isplitl [Hs]; · iexact Hs
        isplitl [Hx]; · iexact Hx
        iexact HO
      iexact HQ
  · exact body_idle m c t0_1 (by decide) (by decide) (mid m c 1) (mid m c 2) rfl rfl fun W Q => by
      iintro H HQ
      iapply (body_second m c (grid0.coords t0_1) (st0_0 t0_1) _ (st0_1 t0_1) _ _ rfl W Q) $$ [H]
      · iexact H
      iintro ⟨HP, Hx, HO⟩
      iapply HQ
      isplitl [HP]; · iexact HP
      isplitl [Hx]; · iexact Hx
      iexists W; iexact HO
  · exact body_idle m c t0_2 (by decide) (by decide) (mid m c 2) (mid m c 3) rfl rfl fun W Q => by
      iintro H HQ
      iapply (body_third m c (grid0.coords t0_2) (st0_0 t0_2) _ (st0_1 t0_2) _ _ rfl W Q) $$ [H]
      · iexact H
      iintro ⟨HP, Hx, HO⟩
      iapply HQ
      isplitl [HP]; · iexact HP
      isplitl [Hx]; · iexact Hx
      iexists W; iexact HO
  · show iprop((mid m c 3 ∗ ∃ r, prngReg c r) ∗ (dat m c).owesAt () t0_3.castSucc
        ∗ (∃ d, owns (c : Thread nD τ) (st0_0 t0_3) fullShare ((dat m c).before 0 t0_3 d)) ∗ (∃ d, owns (c : Thread nD τ) (st0_1 t0_3) fullShare ((dat m c).before 1 t0_3 d)))
      ⊢ wp frame (wpE (defs₀ (F := F)) 𝒱₀ (c : Thread nD τ) none) Set.univ (bodyAt0 (F := F) t0_3) fun _ =>
        iprop((over c ∗ ∃ r, prngReg c r) ∗ (dat m c).owesAt () t0_3.succ
          ∗ owns (c : Thread nD τ) (st0_0 t0_3) fullShare (iblk m c 0 t0_3) ∗ owns (c : Thread nD τ) (st0_1 t0_3) fullShare (outAt m c))
    simp only [before_in]
    iintro ⟨⟨HP, Hr⟩, HO, ⟨%d, Hx⟩, ⟨%d', Ho⟩⟩
    ihave HO' := (owesAt_elim m c _ _ rfl) $$ HO
    icases HO' with ⟨%W, HO⟩
    iapply (body_last m c (grid0.coords t0_3) (st0_0 t0_3) _ (st0_1 t0_3) _ _ rfl _ W _) $$ [HP Hx Ho HO]
    · isplitl [HP]; · iexact HP
      isplitl [Hx]; · iexact Hx
      isplitl [Ho]; · iexact Ho
      iexact HO
    iintro ⟨HP, Hx, Ho, ⟨%W', HO⟩⟩
    isplitl [HP Hr]
    · isplitl [HP]; · iexact HP
      iexact Hr
    isplitl [HO]; · iapply (owesAt_intro m c t0_3.succ 0 (owing_end c) W') $$ HO
    isplitl [Hx]; · iexact Hx
    iexact Ho

end Cert.RowSum

end
-- ==== Proof.Segments.lean ====
/-
The program as the kernel's region followed by the host's reshape.
-/
module

public import proofs.«01_k».proof.Proof.Region
public import Idealize.ShloMosaic.Lib.Pipeline.RegionArraysS

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## @main as two segments: the kernel's region, then the reshape of its result -/

/-- The kernel call takes no tables. -/
abbrev adm : (p : Fin 1) → (pcfgs (F := F) p).Adm := fun p => (cfgs p).toPCfg_adm

/-- The region's proof data, per pipeline. -/
def pdats : (p : Fin 1) → (c : Dev nD) → Dat τ (Elt F) Unit ℕ UU ℕ (Pipeline.pin (pcfgs (F := F)) adm p) c := fun | 0 => dat m

/-- The buffers the program runs over. -/
abbrev refs : Finset (DevRef τ sig) := Pipeline.ucRefs τ sig
/-- Those that no window stages. -/
abbrev others : Finset (DevRef τ sig) := refs \ Pipeline.arrRefs spec0

/-- Their contents when the region ends. -/
abbrev V₁ (c : Dev nD) : Valuation τ sig (Elt F) := Pipeline.afterRegion (dat m c) (V0 m c)
/-- Their contents when the program ends. -/
abbrev V₂ (c : Dev nD) : Valuation τ sig (Elt F) := StableHlo.after hostOps1 (V₁ m c)

/-- The arrays that the kernel call stages are among the program's buffers. -/
theorem arr_sub : Pipeline.arrRefs (τ := τ) spec0 ⊆ refs := Pipeline.arrRefs_sub_ucRefs spec0 winFacts0.arr_unscoped

/-- Whatever a device owes is owed to cells with an index, above the bottom level. -/
theorem owesCut (c : Dev nD) (t : Fin (cfg0.N + 1)) (g : GSem nD τ sig) (u : Unit) (h : 0 < (dat m c).owed t g u) :
    u ∈ L g ∧ (0 : ℕ) < lv g u := by
  have cut (n : ℕ) (hn : 0 < owing c n g u) : u ∈ L g ∧ (0 : ℕ) < lv g u :=
    ⟨(owing_cut hn).1, by rw [(owing_cut hn).2]; decide⟩
  have e : (dat m c).owed t = if t.val = 0 then owed₀ c else owing c t.val := rfl
  rw [e] at h
  split at h
  · unfold owed₀ at h
    rw [Pi.add_apply, Finsupp.add_apply] at h
    rcases Nat.add_pos_iff_pos_or_pos.mp h with h | h
    · exact cut _ h
    · rw [tallyAt_apply] at h
      split at h
      · next hg =>
        rw [hg.1]
        exact ⟨by rw [L_tc]; exact Finset.mem_singleton_self _, Nat.one_pos⟩
      · exact absurd h (Nat.lt_irrefl 0)
  · exact cut _ h

/-- The staging buffers' semaphores come before the ports'. -/
theorem staging_low : ∀ (w : Fin 2) (s : Fin (spec0 w).nbuf), ¬ 3 ≤ ((spec0 w).sem s).val := by decide
/-- A staging buffer's cell stands at the bottom level. -/
theorem lv_staging (c : Dev nD) (w : Fin 2) (s : Fin (spec0 w).nbuf) : lv ((c : Thread nD τ), .dma ((spec0 w).sem s)) () = 0 :=
  if_neg (staging_low w s)

/-- The ports' semaphores are the kernel's own, each once. -/
theorem osem_facts : Pipeline.OwnSemFacts spec0 osem := by decide

/-- What a device brings to the region, the buffers apart. -/
abbrev brought (c : Dev nD) : sProp 𝕄 := iprop((∃ K, records m K) ∗ carried c)

/-- What the call is given is the state before its first point. -/
theorem enter (c : Dev nD) :
    iprop(Pipeline.scopedRest spec0 c ∗ (∃ r, prngReg c r) ∗ StableHlo.held (c : Thread nD τ) ∅ (V0 m c) ∗ ready m c) ⊢ (dat m c).Φ 0 := by
  rw [scopedRest0_eq]
  show _ ⊢ iprop((ready m c ∗ ∃ f, ((c : Thread nD τ).loc cc0_scratch0) ↦{fullShare} f) ∗ ∃ r, prngReg c r)
  iintro ⟨Hs, Hr, -, HR⟩
  isplitl [Hs HR]
  · isplitl [HR]; · iexact HR
    iexact Hs
  iexact Hr

/-- The state after the last point gives back what the call was given, with all counters at zero. -/
theorem leave (c : Dev nD) :
    (dat m c).Φ (Fin.last cfg0.N)
      ⊢ iprop(Pipeline.scopedRest spec0 c ∗ (∃ r, prngReg c r) ∗ StableHlo.held (c : Thread nD τ) ∅ (V₁ m c)
        ∗ Pipeline.ownSems0 osem c ∗ semVal (barCell c) 0) := by
  rw [scopedRest0_eq]
  show iprop(over c ∗ ∃ r, prngReg c r) ⊢ _
  unfold over StableHlo.held
  rw [BI.bigSep_empty]
  iintro ⟨⟨Hb, Hp, Hs⟩, Hr⟩
  isplitl [Hs]; · iexact Hs
  isplitl [Hr]; · iexact Hr
  isplitr; · iempintro
  isplitl [Hp]; · iexact Hp
  iexact Hb

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body m c).loose)
    (fun _ => 0) owed₀ (fun c => (zero_add (owed₀ c)).symm) owing_end (fun _ => rfl)
    (fun c w => by unfold Dat.share; split <;> rfl)
    (V0 m) (V₁ m) (fun c b hb => Pipeline.afterRegion_off (dat m c) (V0 m c) refs b (Finset.sdiff_subset hb))
    (brought m) (fun c => semVal (barCell c) 0) (ready m) (fun c => semVal (barCell c) 0) (opening m) (enter m) (leave m)
    (fun c => by iintro H; imodintro; iexact H)
    (fun _ => 0)
    ⟨fun c w s => by rw [L_tc]; exact Finset.mem_singleton_self _,
      fun c w s => (lv_staging c w s).le,
      fun c t g i h => owesCut m c t g i h⟩
    (fun _ => iprop(emp))
    (fun _ _ => rfl) (fun c w => (Pipeline.afterRegion_arr (dat m c) (V0 m c) winFacts0.arr_inj w).symm)

/-- The reshape of the region's result. -/
def host : Pipeline.HostSeg (Name := ℕ) (U := UU) (pcfgs (F := F)) defs₀ 𝒱₀ L lv :=
  Pipeline.HostSeg.ofOps _ _ _ _ _ refs hostOps1
    (fun op h => Pipeline.sub_ucRefs op ((List.forall_iff_forall_mem.mp hostOps1_sub) op h))
    (fun op h => (List.forall_iff_forall_mem.mp hostOps1_fresh) op h) (V₁ m)
    (fun c => iprop(semVal (barCell c) 0 ∗ ∃ W, owes (c : Thread nD τ) (0 : CellTallies nD τ sig Unit) W))

/-- What a device starts from. -/
abbrev T₀ (c : Dev nD) : sProp 𝕄 :=
  iprop(StableHlo.held (c : Thread nD τ) refs (V0 m c) ∗ (∃ r, prngReg c r) ∗ brought m c ∗ ∃ W, owes (c : Thread nD τ) (owed₀ c) W)
/-- What it ends with. -/
abbrev Tₙ (c : Dev nD) : sProp 𝕄 := iprop(StableHlo.held (c : Thread nD τ) refs (V₂ m c) ∗ semVal (barCell c) 0)

/-- What a device starts from is what the region asks for. -/
theorem region_pre (c : Dev nD) : T₀ m c ⊢ (region m).pre c := by
  show _ ⊢ iprop(StableHlo.held (c : Thread nD τ) (Pipeline.arrRefs spec0) (V0 m c) ∗ (∃ r, prngReg c r)
    ∗ (StableHlo.held (c : Thread nD τ) others (V0 m c) ∗ emp) ∗ brought m c ∗ ∃ W, owes (c : Thread nD τ) (0 + owed₀ c) W)
  rw [zero_add]
  unfold T₀
  rw [StableHlo.held_sub_split (c : Thread nD τ) arr_sub (V0 m c)]
  iintro ⟨⟨Ha, Ho⟩, Hr, HT, HO⟩
  isplitl [Ha]; · iexact Ha
  isplitl [Hr]; · iexact Hr
  isplitl [Ho]
  · isplitl [Ho]; · iexact Ho
    iempintro
  isplitl [HT]; · iexact HT
  iexact HO

/-- What the region leaves is what the reshape asks for. -/
theorem region_post (c : Dev nD) : (region m).post c ⊢ (host m).pre c := by
  show iprop(StableHlo.held (c : Thread nD τ) (Pipeline.arrRefs spec0) (V₁ m c) ∗ (∃ r, prngReg c r)
      ∗ (StableHlo.held (c : Thread nD τ) others (V₁ m c) ∗ emp) ∗ semVal (barCell c) 0 ∗ ∃ W, owes (c : Thread nD τ) (0 : CellTallies nD τ sig Unit) W)
    ⊢ iprop(StableHlo.held (c : Thread nD τ) refs (V₁ m c) ∗ semVal (barCell c) 0 ∗ ∃ W, owes (c : Thread nD τ) (0 : CellTallies nD τ sig Unit) W)
  rw [StableHlo.held_sub_split (c : Thread nD τ) arr_sub (V₁ m c)]
  iintro ⟨Ha, -, ⟨Ho, -⟩, Hb, HO⟩
  isplitl [Ha Ho]
  · isplitl [Ha]; · iexact Ha
    iexact Ho
  isplitl [Hb]; · iexact Hb
  iexact HO

/-- What the reshape leaves is what a device ends with. -/
theorem host_post (c : Dev nD) : (host m).post c ⊢ iprop(Tₙ m c ∗ ∃ W, owes (c : Thread nD τ) (0 : CellTallies nD τ sig Unit) W) := by
  show iprop(StableHlo.held (c : Thread nD τ) refs (V₂ m c) ∗ semVal (barCell c) 0 ∗ ∃ W, owes (c : Thread nD τ) (0 : CellTallies nD τ sig Unit) W) ⊢ _
  iintro ⟨Hh, Hb, HO⟩
  isplitr [HO]
  · isplitl [Hh]; · iexact Hh
    iexact Hb
  iexact HO

/-- @main as the list. -/
abbrev segs : List (Pipeline.Seg (pcfgs (F := F)) adm (pdats m) () defs₀ 𝒱₀ L lv) := [.region (region m), .host (host m)]

/-- The program is the region followed by the reshape. -/
theorem main_eq (c : Dev nD) : main (F := F) c = Pipeline.Seg.run (segs m) :=
  main_segs adm (pdats m) () 𝒱₀ L lv (host m) (region m) rfl c

end Cert.RowSum

end
-- ==== Proof.Launch.lean ====
/-
The launch: the exchange's ghost state made and dealt, and the program's run from any memory.
-/
module

public import proofs.«01_k».proof.Proof.Segments

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- All the cells of the exchange, on all devices. -/
abbrev allCells : Finset (GSem nD τ sig) := barCells ∪ portCells

/-- A port's semaphore is not the barrier's. -/
theorem port_ne_bar (p : Port) : osem p ≠ .reg barrier0 := fun e => by cases e

/-- Barrier cells and port cells are different cells. -/
theorem cells_apart : Disjoint (barCells : Finset (GSem nD τ sig)) portCells := by
  rw [Finset.disjoint_left]
  intro g hb hp
  obtain ⟨c, -, rfl⟩ := Finset.mem_map.mp hb
  obtain ⟨d, -, hd⟩ := Finset.mem_map.mp hp
  exact port_ne_bar d.2 (congrArg (fun g : GSem nD τ sig => g.2) hd)

/-- The one duty of a cell. -/
def dutyEmb : GSem nD τ sig ↪ GSem nD τ sig × ℕ × Unit := ⟨fun g => (g, 0, ()), fun _ _ h => congrArg Prod.fst h⟩
/-- Every cell's duty. -/
abbrev allDuties : Finset (GSem nD τ sig × ℕ × Unit) := allCells.map dutyEmb

/-- The pipeline's part of the launch element, and the exchange's. -/
def u₀ : UU :=
  (initOf (Pipeline.cells (Pipeline.pin (pcfgs (F := F)) adm) cellOf_inj) (Pipeline.launchToks (Pipeline.pin (pcfgs (F := F)) adm) cellOf_inj),
    launchOf barCells portCells allDuties)

/-- The exchange's part, whole. -/
abbrev seed : sProp 𝕄 := BI.own (ER (launchOf barCells portCells allDuties))
/-- The same as a holding per device: device `0` holds it, the others nothing. -/
def G (c : Dev nD) : sProp 𝕄 := if c = 0 then seed else iprop(emp)

/-- The devices' holdings together are the exchange's part. -/
theorem gather_G : bigSep Finset.univ (G (F := F)) = seed := by
  have h : bigSep (Finset.univ.erase (0 : Dev nD)) (G (F := F)) = bigSep (Finset.univ.erase (0 : Dev nD)) fun _ => (BI.emp : sProp 𝕄) :=
    bigSep_congr fun c hc => by unfold G; rw [if_neg (Finset.ne_of_mem_erase hc)]; rfl
  rw [bigSep_univ_at _ (0 : Dev nD), h, BI.bigSep_emp_const]
  unfold G
  rw [if_pos rfl]
  exact BI.equiv_iff.mp sep_emp

/-! ## What each device gets of it -/

/-- Something for every port cell is something for every port of every device. -/
theorem per_port (Φ : GSem nD τ sig → sProp 𝕄) :
    bigSep portCells Φ = bigSep Finset.univ fun c : Dev nD => bigSep Finset.univ fun p : Port => Φ (cell c p) := by
  rw [bigSep_map, bigSep_univ_prod]; rfl

/-- Something for every port is something for every send port and every receive port. -/
theorem per_side (Φ : Port → sProp 𝕄) :
    bigSep Finset.univ Φ = iprop((bigSep Finset.univ fun k : Fin 4 => Φ (0, k)) ∗ bigSep Finset.univ fun k : Fin 4 => Φ (1, k)) := by
  rw [bigSep_univ_prod]; exact BI.bigSep_fin_two _

/-- The tokens, dealt to the devices that pay the duties: a report's and an arrival's to the mate. -/
theorem deal :
    bigSep allDuties (fun x => (dutyTok ER x.1 x.2.1 x.2.2 : sProp 𝕄))
      = iprop((bigSep Finset.univ fun c : Dev nD => dutyTok ER (barCell (peer c)) 0 ())
        ∗ bigSep Finset.univ fun c : Dev nD => bigSep Finset.univ fun k : Fin 4 => tokens c k) := by
  have hb : bigSep barCells (fun g => (dutyTok ER g 0 () : sProp 𝕄)) = bigSep Finset.univ fun c : Dev nD => dutyTok ER (barCell (peer c)) 0 () := by
    rw [bigSep_map]
    exact bigSep_univ_equiv mates fun c : Dev nD => (dutyTok ER (barCell c) 0 () : sProp 𝕄)
  have hs (c : Dev nD) : (bigSep Finset.univ fun p : Port => (dutyTok ER (cell c p) 0 () : sProp 𝕄))
      = iprop((bigSep Finset.univ fun k : Fin 4 => dutyTok ER (cell c (0, k)) 0 ()) ∗ bigSep Finset.univ fun k : Fin 4 => dutyTok ER (cell c (1, k)) 0 ()) :=
    per_side _
  have ht (c : Dev nD) : (bigSep Finset.univ fun k : Fin 4 => (tokens c k : sProp 𝕄))
      = iprop((bigSep Finset.univ fun k : Fin 4 => dutyTok ER (cell c (0, k)) 0 ()) ∗ bigSep Finset.univ fun k : Fin 4 => dutyTok ER (cell (peer c) (1, k)) 0 ()) := by
    unfold tokens; exact bigSep_sep' _ _ _
  have hp : bigSep portCells (fun g => (dutyTok ER g 0 () : sProp 𝕄))
      = bigSep Finset.univ fun c : Dev nD => bigSep Finset.univ fun k : Fin 4 => tokens c k := by
    rw [per_port, bigSep_congr fun c _ => hs c, bigSep_congr fun c _ => ht c, bigSep_sep', bigSep_sep',
      bigSep_univ_equiv mates fun c : Dev nD => (bigSep Finset.univ fun k : Fin 4 => (dutyTok ER (cell c (1, k)) 0 () : sProp 𝕄))]
    rfl
  rw [bigSep_map, ← hb, ← hp]
  exact bigSep_union cells_apart

/-! ## The launch credit -/

/-- A device is another's mate when the other is its mate. -/
theorem peer_eq (d c : Dev nD) : Iff (c = peer d) (d = peer c) :=
  ⟨fun h => by rw [h, peer_peer], fun h => by rw [h, peer_peer]⟩

/-- A barrier cell is owed one unit, by the mate alone. -/
theorem owed_bar (d c : Dev nD) : owed₀ d (barCell c) () = if d = peer c then 1 else 0 := by
  have h0 : owing d 0 (barCell c) () = 0 := by
    by_contra hne
    obtain ⟨k, hk⟩ := owing_pos (Nat.pos_of_ne_zero hne)
    exact port_ne_bar _ (congrArg (fun g : GSem nD τ sig => g.2) hk).symm
  have h1 : Iff (barCell c = barCell (peer d) ∧ () = ()) (d = peer c) :=
    ⟨fun h => (peer_eq d c).1 (barEmb.injective h.1), fun h => ⟨congrArg barCell ((peer_eq d c).2 h), rfl⟩⟩
  unfold owed₀
  rw [Pi.add_apply, Finsupp.add_apply, h0, Nat.zero_add, tallyAt_apply]
  exact if_congr h1 rfl rfl

/-- A receive cell is owed one piece's credit, by the mate alone. -/
theorem owed_port (d c : Dev nD) (k : Fin 4) : owed₀ d (cell c (1, k)) () = if d = peer c then N else 0 := by
  have h1 (k' : Fin 4) : Iff (cell c (1, k) = cell (peer d) (1, k') ∧ () = ()) (d = peer c ∧ k' = k) :=
    ⟨fun h => by
      have e := portEmb.injective (a₁ := (c, ((1, k) : Port))) (a₂ := (peer d, ((1, k') : Port))) h.1
      exact ⟨(peer_eq d c).1 (congrArg Prod.fst e), (congrArg (fun x : Dev nD × Port => x.2.2) e).symm⟩,
      fun h => ⟨by rw [h.2, ← (peer_eq d c).2 h.1], rfl⟩⟩
  unfold owed₀ owing
  rw [Pi.add_apply, Finsupp.add_apply, tallyAt_ne_cell (fun h => port_ne_bar _ (congrArg (fun g : GSem nD τ sig => g.2) h)), Finsupp.zero_apply, Nat.add_zero,
    Finset.sum_apply, Finsupp.finset_sum_apply, from_zero, Finset.sum_congr rfl fun k' _ => (tallyAt_apply _ _ _ _ _).trans (if_congr (h1 k') rfl rfl)]
  by_cases h : d = peer c
  · rw [Finset.sum_congr rfl fun k' _ => if_congr (and_iff_right h) rfl rfl, Finset.sum_ite_eq', if_pos (Finset.mem_univ _), if_pos h]
  · rw [Finset.sum_congr rfl fun k' _ => if_neg fun e => h e.1, Finset.sum_const_zero, if_neg h]

/-- A cell of which only the mate owes units at launch has those as its launch credit. -/
theorem credit_at (c : Dev nD) (g : GSem nD τ sig) (n : ℕ) (h : ∀ d, owed₀ d g () = if d = peer c then n else 0) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

/-- The receive ports' semaphores, piece by piece. -/
def recvEmb : Fin 4 ↪ SemLoc sig := ⟨fun k => osem (1, k), fun _ _ h => congrArg Prod.snd (dsem_inj (SemLoc.dma.inj h))⟩

/-- The credits a device's waits spend: one for the mate's report, and a piece's for each arrival. -/
theorem credits (c : Dev nD) :
    (Pipeline.launchCred owed₀ c : sProp 𝕄)
      ⊢ iprop(cred (tallyAt (barCell c) () 1) ∗ bigSep Finset.univ fun k : Fin 4 => cred (tallyAt (cell c (1, k)) () N)) := by
  have hsub : (Finset.univ.map recvEmb : Finset (SemLoc sig)) ⊆ Finset.univ.erase (.reg barrier0) := fun s hs => by
    obtain ⟨k, -, rfl⟩ := Finset.mem_map.mp hs
    exact Finset.mem_erase.mpr ⟨port_ne_bar _, Finset.mem_univ _⟩
  unfold Pipeline.launchCred
  rw [bigSep_univ_at _ (SemLoc.reg barrier0), credit_at c _ 1 fun d => owed_bar d c]
  refine sep_mono_right ?_
  rw [bigSep_congr fun k _ => (congrArg cred (credit_at c (cell c (1, k)) N fun d => owed_port d c k)).symm]
  refine (BI.bigSep_subset hsub).trans ?_
  rw [bigSep_map]
  exact BI.Entails.refl _

/-! ## From the launch to every device's start -/

/-- The one semaphore that outlives the kernel call is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What a device has of its own at launch. -/
def bundle (c : Dev nD) : sProp 𝕄 :=
  iprop(StableHlo.held (c : Thread nD τ) refs (V0 m c) ∗ (∃ r, prngReg c r)
    ∗ (cred (tallyAt (barCell c) () 1) ∗ bigSep Finset.univ fun k : Fin 4 => cred (tallyAt (cell c (1, k)) () N))
    ∗ ∃ W, owes (c : Thread nD τ) (owed₀ c) W)

/-- What it gets of the exchange's ghost state. -/
def share (c : Dev nD) : sProp 𝕄 :=
  iprop(atPos ER (barCell c) 0 ∅ 0 ∗ (bigSep Finset.univ fun p : Port => openTok ER (cell c p))
    ∗ dutyTok ER (barCell (peer c)) 0 () ∗ bigSep Finset.univ fun k : Fin 4 => tokens c k)

/-- With the records, a device's share and its own holdings are what it starts from. -/
theorem start (K : GSem nD τ sig → ℕ) (c : Dev nD) : iprop(records m K ∗ share c ∗ bundle m c) ⊢ T₀ m c := by
  unfold share bundle T₀ brought carried
  iintro ⟨#HR, ⟨Ha, Ho, Hb, Ht⟩, Hh, Hr, ⟨H1, HN⟩, HO⟩
  isplitl [Hh]; · iexact Hh
  isplitl [Hr]; · iexact Hr
  isplitr [HO]
  · isplitr; · iexists K; iexact HR
    isplitl [Ha]; · iexact Ha
    isplitl [Ho]; · iexact Ho
    isplitl [Hb]; · iexact Hb
    isplitl [Ht]; · iexact Ht
    isplitl [H1]; · iexact H1
    iexact HN
  iexact HO

/-- The launch gives a device its own holdings, its barrier counter and its part of the launch element. -/
theorem init_core (c : Dev nD) :
    iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(bundle m c ∗ semVal (barCell c) 0 ∗ G c) : sProp 𝕄) := by
  rw [show unscopedBufs c (fun b => m ((c : Thread nD τ).loc b)) = StableHlo.held (c : Thread nD τ) refs (V0 m c) from Pipeline.unscopedBufs_held c (V0 m c),
    unscopedSems0_eq]
  unfold bundle
  iintro ⟨Hh, Hb, HO, Hc, Hr, HG⟩
  ihave Hc' := (credits (F := F) c) $$ Hc
  isplitl [Hh Hr Hc' HO]
  · isplitl [Hh]; · iexact Hh
    isplitl [Hr]; · iexists (ρ c); iexact Hr
    isplitl [Hc']; · iexact Hc'
    iexists ∅; iexact HO
  isplitl [Hb]; · iexact Hb
  iexact HG

/-- From the launch, every device's start: the invariants are made, and tokens and positions dealt. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp 𝕄) := by
  have hv : (bigSep Finset.univ fun c : Dev nD => (semVal (barCell c) 0 : sProp 𝕄)) ⊢ bigSep barCells fun g => semVal g 0 :=
    Entails.of_eq (bigSep_map (s := Finset.univ) barEmb (Φ := fun g : GSem nD τ sig => (semVal g 0 : sProp 𝕄))).symm
  have ha : (bigSep barCells fun g => (atPos ER g 0 ∅ 0 : sProp 𝕄)) ⊢ bigSep Finset.univ fun c : Dev nD => atPos ER (barCell c) 0 ∅ 0 :=
    Entails.of_eq (bigSep_map (s := Finset.univ) barEmb (Φ := fun g : GSem nD τ sig => (atPos ER g 0 ∅ 0 : sProp 𝕄)))
  have ho : (bigSep portCells fun g => (openTok ER g : sProp 𝕄))
      ⊢ bigSep Finset.univ fun c : Dev nD => bigSep Finset.univ fun p : Port => openTok ER (cell c p) := Entails.of_eq (per_port _)
  have hcores : (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (iprop((bigSep Finset.univ fun c : Dev nD => bundle m c) ∗ (bigSep Finset.univ fun c : Dev nD => semVal (barCell c) 0) ∗ seed) : sProp 𝕄) := by
    refine (bigSep_mono fun c _ => init_core m ρ c).trans ?_
    rw [bigSep_sep', bigSep_sep', ← gather_G]
    exact BI.Entails.refl _
  have hshares : (bigSep Finset.univ fun c : Dev nD => (iprop(share c ∗ bundle m c) : sProp 𝕄))
      = iprop(((bigSep Finset.univ fun c : Dev nD => atPos ER (barCell c) 0 ∅ 0)
        ∗ (bigSep Finset.univ fun c : Dev nD => bigSep Finset.univ fun p : Port => openTok ER (cell c p))
        ∗ (bigSep Finset.univ fun c : Dev nD => dutyTok ER (barCell (peer c)) 0 ())
        ∗ bigSep Finset.univ fun c : Dev nD => bigSep Finset.univ fun k : Fin 4 => tokens c k) ∗ bigSep Finset.univ fun c : Dev nD => bundle m c) := by
    unfold share
    rw [bigSep_sep', bigSep_sep', bigSep_sep', bigSep_sep']
  iintro ⟨H, -⟩
  ihave H' := hcores $$ H
  icases H' with ⟨HB, Hv, Hu⟩
  imod (Rounds.fund_launch ER (sched m) cells_apart (fun g _ h => h) allDuties) $$ [Hv Hu] with ⟨%K, -, #Hinv, #Hr, Hat, Hop, Htok⟩
  · isplitl [Hv]
    · iapply hv $$ Hv
    · iexact Hu
  imodintro
  iapply (bigSep_with_persistent (R := records m K) (Φ := fun c => iprop(share c ∗ bundle m c)) fun c _ => start m K c)
  isplitr
  · unfold records
    isplitr; · iexact Hinv
    iexact Hr
  rw [hshares]
  isplitr [HB]
  · isplitl [Hat]; · iapply ha $$ Hat
    isplitl [Hop]; · iapply ho $$ Hop
    iapply (Entails.of_eq (deal (F := F))) $$ Htok
  iexact HB

/-! ## The run -/

/-- The program's buffers are its argument, the packed result and the result. -/
theorem refs_eq (c : Dev nD) (W : Valuation τ sig (Elt F)) : (StableHlo.held (c : Thread nD τ) refs W : sProp 𝕄)
    = iprop((((c : Thread nD τ).loc main_arg0) ↦{fullShare} W main_arg0) ∗ (((c : Thread nD τ).loc main_v1) ↦{fullShare} W main_v1)
      ∗ (((c : Thread nD τ).loc main_v2) ↦{fullShare} W main_v2)) := by
  unfold StableHlo.held
  rw [bigSep_eq_bigSepL_of_eq [Proc.devRef .tc main_arg0, Proc.devRef .tc main_v1, Proc.devRef .tc main_v2] (by decide) (by decide)]
  rfl

/-- No other semaphore outlives the kernel call. -/
theorem unscoped_bar : ∀ sm : SemLoc sig, sm.isScoped .tc = false → sm = .reg barrier0 := by decide

set_option backward.isDefEq.respectTransparency.types false in
/-- From any memory, every execution ends, with the program's buffers at `V₂` and every semaphore at zero. -/
theorem run_raw : θ_run defs (onTc (τ := τ) (main (F := F))) (s₀ m ρ)
    (fun r => (∀ c : Dev nD, r.2.mem ((c : Thread nD τ).loc main_arg0) = V₂ m c main_arg0
        ∧ r.2.mem ((c : Thread nD τ).loc main_v2) = V₂ m c main_v2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [gather_G]; iexact HX)
    (T₀ := T₀ m) (Tₙ := Tₙ m)
    (hch := ⟨fun c => region_pre m c, fun c => region_post m c, fun c => host_post m c⟩)
    (hinit := init m ρ)
    (QY := fun c s => (s.mem ((c : Thread nD τ).loc main_arg0) = V₂ m c main_arg0 ∧ s.mem ((c : Thread nD τ).loc main_v2) = V₂ m c main_v2)
      ∧ s.sem (barCell c) = 0)
    (hfin := fun c s' => by
      dsimp only [Tₙ]; rw [refs_eq]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1, sem_eq_zero hs fun c sm hsm => by
      obtain rfl := unscoped_bar sm hsm
      exact (h c).2⟩)

end Cert.RowSum

end
-- ==== Proof.Run.lean ====
/-
The program's run, with its result named.
-/
module

public import proofs.«01_k».proof.Proof.Launch
public import Idealize.ShloMosaic.Lib.Pipeline.ValueKit.Geometry

@[expose] public section

noncomputable section

namespace Cert.RowSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one write-back covers the packed result: the array ends at `outAt`. -/
theorem packed_result (c : Dev nD) : V₁ m c main_v1 = outAt m c :=
  (Pipeline.afterRegion_arr (dat m c) (V0 m c) winFacts0.arr_inj 1).trans
    ((dat m c).arrAt_eq_of_after_last 1 t0_3 (by decide +kernel) (outAt m c) fun _ => rfl)

/-- A device's result: the packed sums, one per row. -/
def result (c : Dev nD) : FVec F S4096x1 .f32 := shapeCast S4096x1 (outAt m c) shapeCasts_S32x128_S4096x1

/-- When the program ends, the result buffer holds `result`. -/
theorem result_eq (c : Dev nD) : V₂ m c main_v2 = result m c := by
  unfold V₂ result
  rw [StableHlo.after_cons, StableHlo.after_nil, ← packed_result]
  exact StableHlo.reshape_result ..

/-- When the program ends, the argument is as it was. -/
theorem argument_eq (c : Dev nD) : V₂ m c main_arg0 = m ((c : Thread nD τ).loc main_arg0) :=
  (StableHlo.after_of_forall_not_mem (b := Proc.devRef .tc main_arg0) hostOps1 (V₁ m c) (fun op h => by
    rw [List.mem_singleton] at h; subst h
    rw [StableHlo.reshape_writes, Finset.mem_singleton]; decide)).trans
    (Pipeline.afterRegion_keeps (dat m c) (V0 m c) winFacts0.arr_inj (fun _ => rfl) main_arg0 fun w h => by
      revert w; decide)

/-- From any memory, every execution ends; then every device's argument is unchanged, its result is `result`, and every
    semaphore is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = result m c) ∧ r.2.sem = fun _ => 0) :=
  (θ_run defs _ _).mono (fun _ h => ⟨fun c => ⟨(h.1 c).1.trans (argument_eq m c), (h.1 c).2.trans (result_eq m c)⟩, h.2⟩) (run_raw m ρ)

end Cert.RowSum

end
-- ==== Proof.Value.lean ====
/-
What the kernel computes over the extended reals: each device's result holds, in every row, the sum of the row's
entries on the device plus the sum of the row's entries on its mate.
-/
module

public import proofs.«01_k».proof.Proof.Run
public import Idealize.ShloMosaic.Lib.Pointwise.Reduce
public import Idealize.ShloMosaic.Lib.Layout

@[expose] public section

noncomputable section

namespace Cert.RowSum

open Cert.KernelIdeal Cert.KernelIdeal.Gen
open Idealize.ShloMosaic
open Idealize.ShloMosaic.TcCoe

/-! ## The packing -/

section Packing

variable {F : FTy → Type} [FloatOps F]
variable (m : (ℓ : Loc nD τ sig) → Buf (Elt F) ℓ)

/-- Step `k` reads the block `k` of 1024 rows. -/
theorem block_start (k : Fin 4) : ∀ a, cc0_transform_0 (cfg0.grid.coords k) a = (![k.val, 0] : Fin 2 → Nat) a := by
  revert k; decide

/-- Row `i`, column `l` of the block of step `k` is row `1024 k + i`, column `l` of the device's argument. -/
theorem iblk_at (c : Dev nD) (k : Fin 4) (i l : Fin 1024) :
    iblk m c 0 k (ix2 i l) = m ((c : Thread nD τ).loc main_arg0)
      (ix2 (⟨1024 * k.val + i.val, by have h1 := k.isLt; have h2 := i.isLt; omega⟩ : Fin 4096) l) := by
  show m ((c : Thread nD τ).loc main_arg0) (((cfg0.win 0).blk k).view.emb (ix2 i l)) = _
  congr 1
  funext a
  apply Fin.ext
  match a with
  | ⟨0, _⟩ =>
    show cc0_transform_0 (cfg0.grid.coords k) 0 * 1024 + 1 * i.val = 1024 * k.val + i.val
    rw [block_start]; show k.val * 1024 + 1 * i.val = _; omega
  | ⟨1, _⟩ =>
    show cc0_transform_0 (cfg0.grid.coords k) 1 * 1024 + 1 * l.val = l.val
    rw [block_start]; show 0 * 1024 + 1 * l.val = _; omega

/-- Where row `i` of a block's 1024 sums sits in the packed piece. -/
theorem packed_piece (v : FVec F S1024 .f32) (j : S1x8x128.Idx) :
    shapeCast S1x8x128 (shapeCast S8x128 v shapeCasts_S1024_S8x128) shapeCasts_S8x128_S1x8x128 j
      = v (ix1 (⟨128 * (j 1).val + (j 2).val, by
          have h1 : (j 1).val < 8 := (j 1).isLt
          have h2 : (j 2).val < 128 := (j 2).isLt
          omega⟩ : Fin 1024)) := by
  have h0 : (j 0).val < 1 := (j 0).isLt
  show v (Shape.reshapeEquiv _ (Shape.reshapeEquiv _ j)) = _
  congr 1
  refine Shape.reshapeEquiv_eq_of_rowMajor _ ?_
  rw [Shape.rowMajor_reshapeEquiv, Shape.rowMajor_val_one, Shape.rowMajor_val_three]
  show 128 * (j 1).val + (j 2).val = ((j 0).val * 8 + (j 1).val) * 128 + (j 2).val
  omega

/-- Dropping a slab's unit axis reads the same row and lane. -/
theorem slab_at (v : FVec F S1x32x128 .f32) (a : Fin 32) (b : Fin 128) :
    shapeCast S32x128 v shapeCasts_S1x32x128_S32x128 (ix2 a b) = v (ix3 0 a b) := by
  show v (Shape.reshapeEquiv _ _) = _
  congr 1
  refine Shape.reshapeEquiv_eq_of_rowMajor _ ?_
  rw [Shape.rowMajor_val_two, Shape.rowMajor_val_three]
  show (0 * 32 + a.val) * 128 + b.val = a.val * 128 + b.val
  omega

/-- Row `r` of a device's result is entry `(r / 128, r % 128)` of the packed sums. -/
theorem result_at (c : Dev nD) (r : Fin 4096) (u : Fin 1) :
    result m c (ix2 r u) = outAt m c (ix2 (⟨r.val / 128, by have h := r.isLt; omega⟩ : Fin 32) (⟨r.val % 128, by omega⟩ : Fin 128)) := by
  show outAt m c (Shape.reshapeEquiv _ _) = _
  congr 1
  refine Shape.reshapeEquiv_eq_of_rowMajor _ ?_
  rw [Shape.rowMajor_val_two, Shape.rowMajor_val_two]
  show r.val / 128 * 128 + r.val % 128 = r.val * 1 + u.val
  have h := u.isLt
  omega

/-- What slab 0 holds at a row and a lane: the device's own sum. -/
theorem comm_at_own (c : Dev nD) (a : Fin 32) (b : Fin 128) :
    comm m c (ix3 0 a b) = sums m c ⟨a.val / 8, by have h := a.isLt; omega⟩ (ix3 0 (⟨a.val % 8, by omega⟩ : Fin 8) b) := by
  show sums m c _ (inPiece (ix3 0 a b)) = _
  congr 1
  funext x
  apply Fin.ext
  match x with
  | ⟨0, _⟩ => rfl
  | ⟨1, _⟩ => rfl
  | ⟨2, _⟩ => exact Nat.mod_eq_of_lt b.isLt

/-- What slab 1 holds at a row and a lane: the mate's sum. -/
theorem comm_at_mate (c : Dev nD) (a : Fin 32) (b : Fin 128) :
    comm m c (ix3 1 a b) = sums m (peer c) ⟨a.val / 8, by have h := a.isLt; omega⟩ (ix3 0 (⟨a.val % 8, by omega⟩ : Fin 8) b) := by
  show sums m (peer c) _ (inPiece (ix3 1 a b)) = _
  congr 1
  funext x
  apply Fin.ext
  match x with
  | ⟨0, _⟩ => exact Nat.mod_one _
  | ⟨1, _⟩ => rfl
  | ⟨2, _⟩ => exact Nat.mod_eq_of_lt b.isLt

/-- Reading slab `s` whole reads the scratch at slab `s`. -/
theorem slab_read (s : Fin 2) (h) (f : (cc0_scratch0 : Ref sig .tc).ty.Contents (Elt F)) (a : Fin 32) (b : Fin 128) :
    scr.view.readAt (Elt F) (Rect.unit (s := S2x32x128) ![s.val, 0, 0] S1x32x128.size h).toLoadRect f (ix3 0 a b) = f (ix3 s a b) := by
  refine congrArg f (funext fun x => Fin.ext ?_)
  match x with
  | ⟨0, _⟩ => show s.val + 1 * 0 = s.val; omega
  | ⟨1, _⟩ => show 0 + 1 * a.val = a.val; omega
  | ⟨2, _⟩ => show 0 + 1 * b.val = b.val; omega

/-- Each packed entry is the device's own sum plus its mate's. -/
theorem outAt_at (c : Dev nD) (a : Fin 32) (b : Fin 128) :
    outAt m c (ix2 a b) = FloatOps.addf
      (sums m c ⟨a.val / 8, by have h := a.isLt; omega⟩ (ix3 0 (⟨a.val % 8, by omega⟩ : Fin 8) b))
      (sums m (peer c) ⟨a.val / 8, by have h := a.isLt; omega⟩ (ix3 0 (⟨a.val % 8, by omega⟩ : Fin 8) b)) := by
  show FloatOps.addf (shapeCast S32x128 _ shapeCasts_S1x32x128_S32x128 (ix2 a b)) (shapeCast S32x128 _ shapeCasts_S1x32x128_S32x128 (ix2 a b)) = _
  rw [slab_at, slab_at, ← comm_at_own, ← comm_at_mate]
  exact congrArg₂ _ (slab_read 0 _ _ a b) (slab_read 1 _ _ a b)

end Packing

/-! ## The sums, over the extended reals -/

variable (m : (ℓ : Loc nD τ sig) → Buf (Elt Ideal) ℓ)

/-- A device's argument, as an array of extended reals. -/
def part (c : Dev nD) : (⟨2, ![4096, 1024]⟩ : Shape).Idx → EReal := m ((c : Thread nD τ).loc main_arg0)

/-- A packed entry of step `k` is the sum of the device's row it stands for. -/
theorem sums_at (c : Dev nD) (k : Fin 4) (a : Fin 8) (b : Fin 128) :
    sums m c k (ix3 0 a b) = (∑ l : Fin 1024, part m c
      (ix2 (⟨1024 * k.val + (128 * a.val + b.val), by have h1 := k.isLt; have h2 := a.isLt; have h3 := b.isLt; omega⟩ : Fin 4096) l) : EReal) := by
  have hr : 128 * a.val + b.val < 1024 := by have h2 := a.isLt; have h3 := b.isLt; omega
  unfold sums k0_pay2
  refine (packed_piece _ _).trans ?_
  refine (Ideal.reduceAdd_r2_a1 (n0 := 1024) (n1 := 1024) reduces_S1024x1024_S1024 _ _).trans ?_
  refine Finset.sum_congr rfl fun l _ => ?_
  refine Eq.trans ?_ (iblk_at m c k ⟨128 * a.val + b.val, hr⟩ l)
  exact congrArg (iblk m c 0 k) (Shape.reshapeEquiv_eq_of_rowMajor _ rfl)

/-- Row `r` of a device's result is the sum of row `r` of its own block plus the sum of row `r` of its mate's. -/
theorem result_sum (c : Dev nD) (r : Fin 4096) (u : Fin 1) :
    result m c (ix2 r u) = ((∑ l : Fin 1024, part m c (ix2 r l))
      + ∑ l : Fin 1024, part m (peer c) (ix2 r l) : EReal) := by
  have hr : ∀ h, (⟨1024 * (r.val / 128 / 8) + (128 * (r.val / 128 % 8) + r.val % 128), h⟩ : Fin 4096) = r :=
    fun _ => Fin.ext (by show 1024 * (r.val / 128 / 8) + (128 * (r.val / 128 % 8) + r.val % 128) = r.val; omega)
  rw [result_at, outAt_at, sums_at, sums_at]
  simp only [hr]
  rfl

end Cert.RowSum

end
-- ==== Proof.Agree.lean ====
/-
The kernel's result is the reference's: a row of the whole array, summed over its 2048 columns, is the sum of its two
halves, one on each device of a row of the mesh.
-/
module

public import proofs.«01_k».proof.Defs
public import proofs.«01_k».proof.Proof.Value
public import proofs.«01_k».proof.Proof.Gen.ReferenceIdeal.Run

@[expose] public section

noncomputable section

namespace Cert.RowSum

open Cert.KernelIdeal Cert.KernelIdeal.Gen
open Idealize.ShloMosaic
open Idealize.ShloMosaic.TcCoe

/-- What the reference computes of the whole array. -/
def whole (A : (⟨2, ![8192, 2048]⟩ : Shape).Idx → EReal) : (⟨2, ![8192, 1]⟩ : Shape).Idx → EReal :=
  broadcastInDim (α := EReal) ReferenceIdeal.S8192x1 ![0] ReferenceIdeal.Facts₀.bcast_S8192_S8192x1_0
    (Host.reduceAdd (F := Ideal) (φ := .f32) A (constant (F := Ideal) ReferenceIdeal.S_ .f32 0x00000000#32)
      ReferenceIdeal.Facts₀.reducesTo_S8192x2048_S8192_d1 ReferenceIdeal.Facts₀.h_S_)

/-- The reference's result in row `R` is the sum of the row. -/
theorem whole_at (A : (⟨2, ![8192, 2048]⟩ : Shape).Idx → EReal) (R : Fin 8192) (u : Fin 1) :
    whole A (ix2 R u) = ∑ l : Fin 2048, A (ix2 R l) := by
  unfold whole
  refine (Ideal.hostReduceAdd_r2_a1 (n0 := 8192) (n1 := 2048) ReferenceIdeal.Facts₀.reducesTo_S8192x2048_S8192_d1 A _ _).trans ?_
  refine (congrArg (· + _) (show _ = (0 : EReal) from ?_)).trans (zero_add _)
  simp [constant]

/-- A row of 2048 entries sums to its first 1024 entries plus its last 1024. -/
theorem sum_halves (f : Fin 2048 → EReal) :
    ∑ l, f l = (∑ l : Fin 1024, f ⟨l.val, by have h := l.isLt; omega⟩) + ∑ l : Fin 1024, f ⟨1024 + l.val, by have h := l.isLt; omega⟩ :=
  Fin.sum_univ_add (a := 1024) (b := 1024) f

/-- Entry `(r, l)` of device `c`'s block is entry `(4096 (c / 2) + r, 1024 (c % 2) + l)` of the whole array. -/
theorem block_at (A : (⟨2, ![8192, 2048]⟩ : Shape).Idx → EReal) (c : Dev nD) (r : Fin 4096) (l : Fin 1024) :
    Layout.blockN ⟨2, ![4096, 1024]⟩ ⟨2, ![8192, 2048]⟩ (Layout.meshBlock [2, 2] ![[0], [1]] c) A (by decide) (ix2 r l)
      = A (ix2 (⟨4096 * (c.val / 2) + r.val, by have h : c.val < 4 := c.isLt; have h' := r.isLt; omega⟩ : Fin 8192)
          (⟨1024 * (c.val % 2) + l.val, by have h' := l.isLt; omega⟩ : Fin 2048)) := by
  rw [Layout.blockN_apply]
  congr 1
  funext a
  apply Fin.ext
  have h : c.val < 4 := c.isLt
  match a with
  | ⟨0, _⟩ => show (c.val / 2 % 2 * 1 + 0) * 4096 + r.val = 4096 * (c.val / 2) + r.val; omega
  | ⟨1, _⟩ => show (c.val / 1 % 2 * 1 + 0) * 1024 + l.val = 1024 * (c.val % 2) + l.val; omega

/-- Row `r` of device `c`'s block of the result is row `4096 (c / 2) + r` of the whole result. -/
theorem result_block_at (v : (⟨2, ![8192, 1]⟩ : Shape).Idx → EReal) (c : Dev nD) (r : Fin 4096) (u : Fin 1) :
    Layout.blockN ⟨2, ![4096, 1]⟩ ⟨2, ![8192, 1]⟩ (Layout.meshBlock [2, 2] ![[0], []] c) v (by decide) (ix2 r u)
      = v (ix2 (⟨4096 * (c.val / 2) + r.val, by have h : c.val < 4 := c.isLt; have h' := r.isLt; omega⟩ : Fin 8192) u) := by
  rw [Layout.blockN_apply]
  congr 1
  funext a
  apply Fin.ext
  have h : c.val < 4 := c.isLt
  match a with
  | ⟨0, _⟩ => show (c.val / 2 % 2 * 1 + 0) * 4096 + r.val = 4096 * (c.val / 2) + r.val; omega
  | ⟨1, _⟩ => show 0 * 1 + u.val = u.val; omega

/-- The sums over the two halves of a row do not depend on which of the two devices adds them. -/
theorem halves_add (A : (⟨2, ![8192, 2048]⟩ : Shape).Idx → EReal) (R : Fin 8192) (y : Fin 2) :
    (∑ l : Fin 1024, A (ix2 R (⟨1024 * y.val + l.val, by have h := y.isLt; have h' := l.isLt; omega⟩ : Fin 2048)))
      + (∑ l : Fin 1024, A (ix2 R (⟨1024 * (1 - y.val) + l.val, by have h := y.isLt; have h' := l.isLt; omega⟩ : Fin 2048)))
      = ∑ l : Fin 2048, A (ix2 R l) := by
  rw [sum_halves fun l => A (ix2 R l)]
  have h0 : ∀ (l : Fin 1024) h, (⟨1024 * 0 + l.val, h⟩ : Fin 2048) = ⟨l.val, by have h' := l.isLt; omega⟩ :=
    fun l _ => Fin.ext (by show 1024 * 0 + l.val = l.val; omega)
  match y with
  | ⟨0, _⟩ => exact congrArg₂ _ (Finset.sum_congr rfl fun l _ => congrArg (fun x => A (ix2 R x)) (h0 l _)) rfl
  | ⟨1, _⟩ => exact (add_comm _ _).trans (congrArg₂ _ (Finset.sum_congr rfl fun l _ => congrArg (fun x => A (ix2 R x)) (h0 l _)) rfl)

/-- If every device holds its block of the whole array, every device's result is its block of the reference's. -/
theorem result_eq_block (m : (ℓ : Loc nD τ sig) → Buf (Elt Ideal) ℓ) (A : (⟨2, ![8192, 2048]⟩ : Shape).Idx → EReal)
    (hA : ∀ c : Dev nD, part m c = Layout.blockN ⟨2, ![4096, 1024]⟩ ⟨2, ![8192, 2048]⟩ (Layout.meshBlock [2, 2] ![[0], [1]] c) A) (c : Dev nD) :
    result m c = Layout.blockN ⟨2, ![4096, 1]⟩ ⟨2, ![8192, 1]⟩ (Layout.meshBlock [2, 2] ![[0], []] c) (whole A) := by
  funext i
  obtain ⟨r, u, rfl⟩ : ∃ (r : Fin 4096) (u : Fin 1), i = ix2 r u := ⟨i 0, i 1, by funext a; match a with | ⟨0, _⟩ => rfl | ⟨1, _⟩ => rfl⟩
  have hc : c.val < 4 := c.isLt
  refine (result_sum m c r u).trans ?_
  rw [result_block_at, whole_at, ← halves_add A _ ⟨c.val % 2, by omega⟩, hA, hA]
  simp only [block_at]
  have hx : (peer c).val / 2 = c.val / 2 := by show (2 * (c.val / 2) + 1 - c.val % 2) / 2 = _; omega
  have hy : (peer c).val % 2 = 1 - c.val % 2 := by show (2 * (c.val / 2) + 1 - c.val % 2) % 2 = _; omega
  simp only [hx, hy]

end Cert.RowSum

end
-- ==== Proof.lean ====
/-
The proof of the certificate's claims. The kernel's run, with its result named, is `Cert.RowSum.run_main`; that this
result is the reference's is `Cert.RowSum.result_eq_block`; here the claims are read off the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernels' body tables of the two texts agree, over any floats. -/
theorem bodies_eq {F : FTy → Type} [FloatOps F] : Cert.Kernel.defs₀ (F := F) = Cert.KernelIdeal.defs₀ (F := F) := by
  refine congrArg Defs.onTc (funext fun ℓ => funext fun a => ?_)
  match ℓ, a with
  | 0, (_, _) => rfl

/-- So do the programs' tables. -/
theorem table_eq {F : FTy → Type} [FloatOps F] : Cert.Kernel.defs (F := F) = Cert.KernelIdeal.defs (F := F) :=
  congrArg (Pipeline.defs Cert.KernelIdeal.pcfgs) bodies_eq

/-- The kernel's text over any floats: every execution ends, with the arguments unchanged and every semaphore at zero. -/
theorem frame_text {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (Cert.RowSum.run_main m ρ)

/-- The kernel as printed, over machine words: every execution ends, with the arguments unchanged and every semaphore
    at zero. The printed and the idealized text are the same, so this is `frame_text` at machine words. -/
theorem frame_kernel : Cert.quiescent_Kernel := by
  intro m ρ _
  rw [table_eq]
  exact frame_text (F := Bits) m ρ

/-- The same over the extended reals. -/
theorem frame_kernelIdeal : Cert.quiescent_KernelIdeal := fun m ρ _ => frame_text (F := Ideal) m ρ

/-- The reference: every execution ends, with its argument unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From corresponding arguments, every device of the kernel ends with its block of the reference's row sums, and the
    arguments of both programs are unchanged. -/
theorem agree : Cert.algebraic_KernelIdeal_ReferenceIdeal := fun m ρ m' ρ' _ hA =>
  ⟨Cert.RowSum.whole (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.RowSum.result_eq_block m _ hA c), (h.1 c).1⟩) (Cert.RowSum.run_main (F := Ideal) m ρ),
    (θ_run Cert.ReferenceIdeal.defs _ _).mono (fun _ h => h 0) (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, agree⟩

end Cert.Proof

end
